-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_experts_in_range_KernelIdeal [hPre_experts_in_range_KernelIdeal : Cert.Pre_experts_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_experts_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_experts_in_range_ReferenceIdeal [hPre_experts_in_range_ReferenceIdeal : Cert.Pre_experts_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_experts_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_experts_in_range_KernelIdeal [hKernelIdeal : Cert.KernelIdeal.Facts] [hPre_experts_in_range_KernelIdeal : Cert.Pre_experts_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_experts_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_experts_in_range_ReferenceIdeal [hReferenceIdeal : Cert.ReferenceIdeal.Facts] [hPre_experts_in_range_ReferenceIdeal : Cert.Pre_experts_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_experts_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_experts_in_range_KernelIdeal [hKernelIdeal : Cert.KernelIdeal.Facts] [hReferenceIdeal : Cert.ReferenceIdeal.Facts] [hPre_experts_in_range_KernelIdeal : Cert.Pre_experts_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_experts_in_range_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 256, 512]⟩ ⟨3, ![16, 256, 512]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_experts_in_range_KernelIdeal : Cert.Pre_experts_in_range_KernelIdeal.Facts) (hPre_experts_in_range_ReferenceIdeal : Cert.Pre_experts_in_range_ReferenceIdeal.Facts),
    quiescent_Kernel (hKernel := hKernel)
    ∧ quiescent_KernelIdeal (hKernelIdeal := hKernelIdeal)
    ∧ quiescent_KernelIdeal_pre_experts_in_range_KernelIdeal (hKernelIdeal := hKernelIdeal) (hPre_experts_in_range_KernelIdeal := hPre_experts_in_range_KernelIdeal)
    ∧ quiescent_ReferenceIdeal (hReferenceIdeal := hReferenceIdeal)
    ∧ quiescent_ReferenceIdeal_pre_experts_in_range_ReferenceIdeal (hReferenceIdeal := hReferenceIdeal) (hPre_experts_in_range_ReferenceIdeal := hPre_experts_in_range_ReferenceIdeal)
    ∧ preserves_Kernel_KernelIdeal
    ∧ algebraic_KernelIdeal_ReferenceIdeal_pre_experts_in_range_KernelIdeal (hKernelIdeal := hKernelIdeal) (hReferenceIdeal := hReferenceIdeal) (hPre_experts_in_range_KernelIdeal := hPre_experts_in_range_KernelIdeal)
-- ==== Pre_experts_in_range_KernelIdeal.lean ====
abbrev S512x256 : Shape := ⟨2, ![512, 256]⟩
abbrev S256x16 : Shape := ⟨2, ![256, 16]⟩
abbrev S512x1 : Shape := ⟨2, ![512, 1]⟩
abbrev S4x256x512 : Shape := ⟨3, ![4, 256, 512]⟩
abbrev S_ : Shape := ⟨0, ![]⟩

class Facts : Prop where
  bcast_S_S512x1 : S_.BroadcastsInDim S512x1 (![] : Fin 0 → Fin S512x1.rank)
  reducesTo_S512x1_S_d0_1 : S512x1.ReducesTo [0, 1] S_
  h_S_ : 0 < S_.numel

variable [Facts]

def fn {F : FTy → Type} [FloatOps F] (main_arg0 : FVec F S512x256 .bf16) (main_arg1 : FVec F S256x16 .bf16) (main_arg2 : IVec S512x1 32) (main_arg3 : FVec F S4x256x512 .bf16) : IVec S_ 1 :=
  let main_c : IVec S_ 32 := constantI S_ 32 0#32
  let main_v0 : IVec S512x1 32 := broadcastInDim S512x1 ![] bcast_S_S512x1 main_c
  let main_v1 : IVec S512x1 1 := cmpi .sge main_arg2 main_v0
  let main_c_0 : IVec S_ 32 := constantI S_ 32 16#32
  let main_v2 : IVec S512x1 32 := broadcastInDim S512x1 ![] bcast_S_S512x1 main_c_0
  let main_v3 : IVec S512x1 1 := cmpi .slt main_arg2 main_v2
  let main_v4 : IVec S512x1 1 := andi main_v1 main_v3
  let main_c_1 : IVec S_ 1 := constantI S_ 1 1#1
  let main_v5 : IVec S_ 1 := (fun x v => Host.reduce IntOp.andi x v reducesTo_S512x1_S_d0_1 h_S_) main_v4 main_c_1
  main_v5
-- ==== Pre_experts_in_range_ReferenceIdeal.lean ====
abbrev S512x256 : Shape := ⟨2, ![512, 256]⟩
abbrev S256x16 : Shape := ⟨2, ![256, 16]⟩
abbrev S512x1 : Shape := ⟨2, ![512, 1]⟩
abbrev S16x256x512 : Shape := ⟨3, ![16, 256, 512]⟩
abbrev S_ : Shape := ⟨0, ![]⟩

class Facts : Prop where
  bcast_S_S512x1 : S_.BroadcastsInDim S512x1 (![] : Fin 0 → Fin S512x1.rank)
  reducesTo_S512x1_S_d0_1 : S512x1.ReducesTo [0, 1] S_
  h_S_ : 0 < S_.numel

variable [Facts]

def fn {F : FTy → Type} [FloatOps F] (main_arg0 : FVec F S512x256 .bf16) (main_arg1 : FVec F S256x16 .bf16) (main_arg2 : IVec S512x1 32) (main_arg3 : FVec F S16x256x512 .bf16) : IVec S_ 1 :=
  let main_c : IVec S_ 32 := constantI S_ 32 0#32
  let main_v0 : IVec S512x1 32 := broadcastInDim S512x1 ![] bcast_S_S512x1 main_c
  let main_v1 : IVec S512x1 1 := cmpi .sge main_arg2 main_v0
  let main_c_0 : IVec S_ 32 := constantI S_ 32 16#32
  let main_v2 : IVec S512x1 32 := broadcastInDim S512x1 ![] bcast_S_S512x1 main_c_0
  let main_v3 : IVec S512x1 1 := cmpi .slt main_arg2 main_v2
  let main_v4 : IVec S512x1 1 := andi main_v1 main_v3
  let main_c_1 : IVec S_ 1 := constantI S_ 1 1#1
  let main_v5 : IVec S_ 1 := (fun x v => Host.reduce IntOp.andi x v reducesTo_S512x1_S_d0_1 h_S_) main_v4 main_c_1
  main_v5
-- ==== Kernel.lean ====
abbrev S512x256 : Shape := ⟨2, ![512, 256]⟩
abbrev S256x16 : Shape := ⟨2, ![256, 16]⟩
abbrev S512x1 : Shape := ⟨2, ![512, 1]⟩
abbrev S4x256x512 : Shape := ⟨3, ![4, 256, 512]⟩
abbrev S512x512 : Shape := ⟨2, ![512, 512]⟩
abbrev S3 : Shape := ⟨1, ![3]⟩
abbrev S_ : Shape := ⟨0, ![]⟩
abbrev S512x16 : Shape := ⟨2, ![512, 16]⟩
abbrev S512 : Shape := ⟨1, ![512]⟩
abbrev S512x128 : Shape := ⟨2, ![512, 128]⟩
abbrev S128x256 : Shape := ⟨2, ![128, 256]⟩
abbrev S32x256 : Shape := ⟨2, ![32, 256]⟩
abbrev S1x256x512 : Shape := ⟨3, ![1, 256, 512]⟩
abbrev S256x512 : Shape := ⟨2, ![256, 512]⟩
abbrev S32x512 : Shape := ⟨2, ![32, 512]⟩
abbrev S128x512 : Shape := ⟨2, ![128, 512]⟩
abbrev S1 : Shape := ⟨1, ![1]⟩

abbrev nBuf : Space → Nat
  | .hbm => 5
  | .vmem => 5
  | .smem => 0
  | _ => 0

abbrev bufTy : (tb : Table) → Fin (tcTables nBuf tb) → BufTy
  | .hbm, ⟨0, _⟩ => ⟨S512x256, .bf16⟩
  | .hbm, ⟨1, _⟩ => ⟨S256x16, .bf16⟩
  | .hbm, ⟨2, _⟩ => ⟨S512x1, .i32⟩
  | .hbm, ⟨3, _⟩ => ⟨S4x256x512, .bf16⟩
  | .hbm, ⟨4, _⟩ => ⟨S512x512, .bf16⟩
  | .local _ .vmem, ⟨0, _⟩ => ⟨S512x256, .bf16⟩
  | .local _ .vmem, ⟨1, _⟩ => ⟨S512x1, .i32⟩
  | .local _ .vmem, ⟨2, _⟩ => ⟨S4x256x512, .bf16⟩
  | .local _ .vmem, ⟨3, _⟩ => ⟨S512x512, .bf16⟩
  | .local _ .vmem, ⟨4, _⟩ => ⟨S512x512, .bf16⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32 : BitVec 32 := 128#32
  let v78 : BitVec 32 := Scalar.muli v2 c128_i32
  let v112 : Index := Scalar.indexCast v78
  let c0_47 : Index := 0#32
  ![v112.toNat, 0]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32 : BitVec 32 := 128#32
  let v78 : BitVec 32 := Scalar.muli v2 c128_i32
  let c0_i32_60 : BitVec 32 := 0#32
  ![v78.toNat, 0]
def k0_dev4 (d0 : Dev nD) : Nat :=
  let c0_i32_59 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_48 : BitVec 32 := 1#32
  let v116 : BitVec 32 := Scalar.addi v2 c1_i32_48
  let c0_i32_49 : BitVec 32 := 0#32
  let v117 : BitVec 32 := Scalar.addi v116 c0_i32_49
  let c4_i32_50 : BitVec 32 := 4#32
  let c0_i32_51 : BitVec 32 := 0#32
  let v118 : BitVec 1 := Scalar.cmpi .eq c4_i32_50 c0_i32_51
  let c1_i32_52 : BitVec 32 := 1#32
  let v119 : BitVec 32 := Scalar.select v118 c1_i32_52 c4_i32_50
  let v120 : BitVec 32 := Scalar.remsi v117 v119
  let c0_i32_54 : BitVec 32 := 0#32
  let v122 : BitVec 1 := Scalar.cmpi .slt v120 c0_i32_54
  let c0_i32_55 : BitVec 32 := 0#32
  let v123 : BitVec 1 := Scalar.cmpi .slt v119 c0_i32_55
  let v124 : BitVec 1 := Scalar.xori v122 v123
  let c0_i32_53 : BitVec 32 := 0#32
  let v121 : BitVec 1 := Scalar.cmpi .ne v120 c0_i32_53
  let v125 : BitVec 1 := Scalar.andi v124 v121
  let v126 : BitVec 32 := Scalar.addi v120 v119
  let v127 : BitVec 32 := Scalar.select v125 v126 v120
  let c1_i32_58 : BitVec 32 := 1#32
  let v128 : BitVec 32 := Scalar.muli v127 c1_i32_58
  let v129 : BitVec 32 := Scalar.addi c0_i32_59 v128
  v129.toNat
def k0_dev5 (d0 : Dev nD) : Nat :=
  let c0_i32_73 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_62 : BitVec 32 := 1#32
  let v136 : BitVec 32 := Scalar.addi v2 c1_i32_62
  let c1_i32_63 : BitVec 32 := 1#32
  let v137 : BitVec 32 := Scalar.addi v136 c1_i32_63
  let c4_i32_64 : BitVec 32 := 4#32
  let c0_i32_65 : BitVec 32 := 0#32
  let v138 : BitVec 1 := Scalar.cmpi .eq c4_i32_64 c0_i32_65
  let c1_i32_66 : BitVec 32 := 1#32
  let v139 : BitVec 32 := Scalar.select v138 c1_i32_66 c4_i32_64
  let v140 : BitVec 32 := Scalar.remsi v137 v139
  let c0_i32_68 : BitVec 32 := 0#32
  let v142 : BitVec 1 := Scalar.cmpi .slt v140 c0_i32_68
  let c0_i32_69 : BitVec 32 := 0#32
  let v143 : BitVec 1 := Scalar.cmpi .slt v139 c0_i32_69
  let v144 : BitVec 1 := Scalar.xori v142 v143
  let c0_i32_67 : BitVec 32 := 0#32
  let v141 : BitVec 1 := Scalar.cmpi .ne v140 c0_i32_67
  let v145 : BitVec 1 := Scalar.andi v144 v141
  let v146 : BitVec 32 := Scalar.addi v140 v139
  let v147 : BitVec 32 := Scalar.select v145 v146 v140
  let c1_i32_72 : BitVec 32 := 1#32
  let v148 : BitVec 32 := Scalar.muli v147 c1_i32_72
  let v149 : BitVec 32 := Scalar.addi c0_i32_73 v148
  v149.toNat
def k0_dev6 (d0 : Dev nD) : Nat :=
  let c0_i32_87 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_76 : BitVec 32 := 1#32
  let v156 : BitVec 32 := Scalar.addi v2 c1_i32_76
  let c2_i32_77 : BitVec 32 := 2#32
  let v157 : BitVec 32 := Scalar.addi v156 c2_i32_77
  let c4_i32_78 : BitVec 32 := 4#32
  let c0_i32_79 : BitVec 32 := 0#32
  let v158 : BitVec 1 := Scalar.cmpi .eq c4_i32_78 c0_i32_79
  let c1_i32_80 : BitVec 32 := 1#32
  let v159 : BitVec 32 := Scalar.select v158 c1_i32_80 c4_i32_78
  let v160 : BitVec 32 := Scalar.remsi v157 v159
  let c0_i32_82 : BitVec 32 := 0#32
  let v162 : BitVec 1 := Scalar.cmpi .slt v160 c0_i32_82
  let c0_i32_83 : BitVec 32 := 0#32
  let v163 : BitVec 1 := Scalar.cmpi .slt v159 c0_i32_83
  let v164 : BitVec 1 := Scalar.xori v162 v163
  let c0_i32_81 : BitVec 32 := 0#32
  let v161 : BitVec 1 := Scalar.cmpi .ne v160 c0_i32_81
  let v165 : BitVec 1 := Scalar.andi v164 v161
  let v166 : BitVec 32 := Scalar.addi v160 v159
  let v167 : BitVec 32 := Scalar.select v165 v166 v160
  let c1_i32_86 : BitVec 32 := 1#32
  let v168 : BitVec 32 := Scalar.muli v167 c1_i32_86
  let v169 : BitVec 32 := Scalar.addi c0_i32_87 v168
  v169.toNat
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S512x256 : Shape := ⟨2, ![512, 256]⟩
abbrev S256x16 : Shape := ⟨2, ![256, 16]⟩
abbrev S512x1 : Shape := ⟨2, ![512, 1]⟩
abbrev S16x256x512 : Shape := ⟨3, ![16, 256, 512]⟩
abbrev S512 : Shape := ⟨1, ![512]⟩
abbrev S1x512 : Shape := ⟨2, ![1, 512]⟩
abbrev S512x512 : Shape := ⟨2, ![512, 512]⟩
abbrev S_ : Shape := ⟨0, ![]⟩
abbrev S512x256x512 : Shape := ⟨3, ![512, 256, 512]⟩

abbrev nBuf : Space → Nat
  | .hbm => 35
  | .vmem => 0
  | .smem => 0
  | _ => 0

abbrev bufTy : (tb : Table) → Fin (tcTables nBuf tb) → BufTy
  | .hbm, ⟨0, _⟩ => ⟨S512x256, .bf16⟩
  | .hbm, ⟨1, _⟩ => ⟨S256x16, .bf16⟩
  | .hbm, ⟨2, _⟩ => ⟨S512x1, .i32⟩
  | .hbm, ⟨3, _⟩ => ⟨S16x256x512, .bf16⟩
  | .hbm, ⟨4, _⟩ => ⟨S512, .i32⟩
  | .hbm, ⟨5, _⟩ => ⟨S512, .i32⟩
  | .hbm, ⟨6, _⟩ => ⟨S1x512, .i32⟩
  | .hbm, ⟨7, _⟩ => ⟨S512x1, .i32⟩
  | .hbm, ⟨8, _⟩ => ⟨S512x512, .i32⟩
  | .hbm, ⟨9, _⟩ => ⟨S512x512, .i32⟩
  | .hbm, ⟨10, _⟩ => ⟨S512x512, .i1⟩
  | .hbm, ⟨11, _⟩ => ⟨S1x512, .i32⟩
  | .hbm, ⟨12, _⟩ => ⟨S512x1, .i32⟩
  | .hbm, ⟨13, _⟩ => ⟨S512x512, .i32⟩
  | .hbm, ⟨14, _⟩ => ⟨S512x512, .i32⟩
  | .hbm, ⟨15, _⟩ => ⟨S512x512, .i1⟩
  | .hbm, ⟨16, _⟩ => ⟨S512x512, .i1⟩
  | .hbm, ⟨17, _⟩ => ⟨S512x512, .i32⟩
  | .hbm, ⟨18, _⟩ => ⟨S_, .i32⟩
  | .hbm, ⟨19, _⟩ => ⟨S512, .i32⟩
  | .hbm, ⟨20, _⟩ => ⟨S_, .i32⟩
  | .hbm, ⟨21, _⟩ => ⟨S512, .i32⟩
  | .hbm, ⟨22, _⟩ => ⟨S512, .i1⟩
  | .hbm, ⟨23, _⟩ => ⟨S16x256x512, .f32⟩
  | .hbm, ⟨24, _⟩ => ⟨S512x1, .i32⟩
  | .hbm, ⟨25, _⟩ => ⟨S512x256x512, .f32⟩
  | .hbm, ⟨26, _⟩ => ⟨S512x256, .f32⟩
  | .hbm, ⟨27, _⟩ => ⟨S512x512, .f32⟩
  | .hbm, ⟨28, _⟩ => ⟨S512x1, .i1⟩
  | .hbm, ⟨29, _⟩ => ⟨S_, .f32⟩
  | .hbm, ⟨30, _⟩ => ⟨S_, .f32⟩
  | .hbm, ⟨31, _⟩ => ⟨S512x512, .i1⟩
  | .hbm, ⟨32, _⟩ => ⟨S512x512, .f32⟩
  | .hbm, ⟨33, _⟩ => ⟨S512x512, .f32⟩
  | .hbm, ⟨34, _⟩ => ⟨S512x512, .bf16⟩
  | _, _ => ⟨S512x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c : Ref sig .tc := ⟨.hbm, 18, rfl⟩
abbrev main_v14 : Ref sig .tc := ⟨.hbm, 19, rfl⟩
abbrev main_c_0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_call0_v0 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]
-- ==== Proof.Count.lean ====
/- Counting the earlier tokens of an expert, and the sums that pick one term: the arithmetic behind the routing. -/
module

public import Mathlib.Data.EReal.Operations
public import Mathlib.Data.Fintype.Card
public import Mathlib.Algebra.BigOperators.Group.Finset.Basic
public import Mathlib.Algebra.BigOperators.Group.Finset.Piecewise
public import Mathlib.Algebra.BigOperators.Ring.Finset
public import Mathlib.Order.Interval.Finset.Fin

@[expose] public section

namespace Cert.Routing

variable {n : ℕ} (e : Fin n → ℕ)

/-- How many tokens before `i` go to `i`'s expert. -/
def before (i : Fin n) : ℕ := (Finset.univ.filter fun j => e j = e i ∧ j < i).card

/-- Counting `i` itself as well adds one. -/
theorem card_upTo (i : Fin n) : (Finset.univ.filter fun j => e j = e i ∧ j ≤ i).card = before e i + 1 := by
  have h : (Finset.univ.filter fun j => e j = e i ∧ j ≤ i) = insert i (Finset.univ.filter fun j => e j = e i ∧ j < i) := by
    ext j
    simp only [Finset.mem_filter, Finset.mem_univ, true_and, Finset.mem_insert]
    constructor
    · rintro ⟨a, b⟩
      rcases eq_or_lt_of_le b with h | h
      · exact .inl h
      · exact .inr ⟨a, h⟩
    · rintro (rfl | ⟨a, b⟩)
      · exact ⟨rfl, le_refl _⟩
      · exact ⟨a, b.le⟩
  rw [h, Finset.card_insert_of_notMem (by simp)]
  rfl

/-- No more tokens than there are. -/
theorem before_lt (i : Fin n) : before e i < n := by
  have h : before e i + 1 ≤ n := by
    rw [← card_upTo]
    exact (Finset.card_le_univ _).trans (by simp)
  omega

/-- Of two tokens of one expert the later has more before it. -/
theorem before_lt_before {i j : Fin n} (h : e i = e j) (hij : i < j) : before e i < before e j := by
  have h1 : before e i + 1 ≤ before e j := by
    rw [← card_upTo]
    refine Finset.card_le_card fun k hk => ?_
    simp only [Finset.mem_filter, Finset.mem_univ, true_and] at hk ⊢
    exact ⟨hk.1.trans h, lt_of_le_of_lt hk.2 hij⟩
  omega

/-- Tokens of one expert are told apart by how many come before. -/
theorem before_inj {i j : Fin n} (h : e i = e j) (hb : before e i = before e j) : i = j := by
  rcases lt_trichotomy i j with h1 | h1 | h1
  · have := before_lt_before e h h1; omega
  · exact h1
  · have := before_lt_before e h.symm h1; omega

/-- A sum of terms weighted by the indicator of one index is that index's term. -/
theorem sum_pick {ι : Type*} [Fintype ι] [DecidableEq ι] (i : ι) (p : ι → Prop) [DecidablePred p] (hp : ∀ j, p j ↔ j = i) (f : ι → EReal) :
    ∑ j, (if p j then (1 : EReal) else 0) * f j = f i := by
  simp only [hp, ite_mul, one_mul, zero_mul, Finset.sum_ite_eq', Finset.mem_univ, if_true]

/-- With no index picked the sum is zero. -/
theorem sum_pick_none {ι : Type*} [Fintype ι] (p : ι → Prop) [DecidablePred p] (hp : ∀ j, ¬ p j) (f : ι → EReal) :
    ∑ j, (if p j then (1 : EReal) else 0) * f j = 0 := by
  simp only [hp, if_false, zero_mul, Finset.sum_const_zero]

/-- A sum of products of two indicators counts the indices at which both hold. -/
theorem sum_both {ι : Type*} [Fintype ι] (p q : ι → Prop) [DecidablePred p] [DecidablePred q] :
    ∑ j, (if p j then (1 : EReal) else 0) * (if q j then 1 else 0) = (((Finset.univ.filter fun j => q j ∧ p j).card : ℝ) : EReal) := by
  have h : ∀ j, (if p j then (1 : EReal) else 0) * (if q j then 1 else 0) = if q j ∧ p j then 1 else 0 := fun j => by
    by_cases h1 : p j <;> by_cases h2 : q j <;> simp [h1, h2]
  simp only [h, Finset.sum_boole]
  simp

end Cert.Routing
-- ==== Proof.Cells.lean ====
/- The all-to-all exchange of `KernelIdeal` over any float values: its cells, what each device computes, and the
   schedule of what every signal and every transfer hands over. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resources: the staging pipeline's rounds and the exchange's, the latter with three duty names per round -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The four devices in a circle -/

set_option backward.proofsInPublic true in
/-- The device `j + 1` places after `c`. -/
def up (j : Fin 3) (c : Dev nD) : Dev nD := ⟨(c.val + j.val + 1) % 4, Nat.mod_lt _ (by decide)⟩
set_option backward.proofsInPublic true in
/-- The device `j + 1` places before `c`. -/
def dn (j : Fin 3) (c : Dev nD) : Dev nD := ⟨(c.val + 3 - j.val) % 4, Nat.mod_lt _ (by decide)⟩

theorem dn_up (j : Fin 3) (c : Dev nD) : dn j (up j c) = c := by revert j c; decide
theorem up_dn (j : Fin 3) (c : Dev nD) : up j (dn j c) = c := by revert j c; decide

/-- Going `j + 1` places forward is a bijection of the devices. -/
def turn (j : Fin 3) : Dev nD ≃ Dev nD := ⟨up j, dn j, dn_up j, up_dn j⟩

/-- The devices the three signals and the three copies of device `c` name. -/
theorem dev1_eq (c : Dev nD) : (⟨k0_dev1 c, k0_dev1_lt c⟩ : Dev nD) = dn 2 c := by revert c; decide
theorem dev2_eq (c : Dev nD) : (⟨k0_dev2 c, k0_dev2_lt c⟩ : Dev nD) = dn 1 c := by revert c; decide
theorem dev3_eq (c : Dev nD) : (⟨k0_dev3 c, k0_dev3_lt c⟩ : Dev nD) = dn 0 c := by revert c; decide
theorem dev4_eq (c : Dev nD) : (⟨k0_dev4 c, k0_dev4_lt c⟩ : Dev nD) = up 0 c := by revert c; decide
theorem dev5_eq (c : Dev nD) : (⟨k0_dev5 c, k0_dev5_lt c⟩ : Dev nD) = up 1 c := by revert c; decide
theorem dev6_eq (c : Dev nD) : (⟨k0_dev6 c, k0_dev6_lt c⟩ : Dev nD) = up 2 c := by revert c; decide

/-! ## The buffers and the cells -/

abbrev xM : Memref sig .tc .vmem S512x256 .bf16 := Memref.whole cc0_stg0_0
abbrev iM : Memref sig .tc .vmem S512x1 .i32 := Memref.whole cc0_stg1_0
abbrev wM : Memref sig .tc .vmem S4x256x512 .bf16 := Memref.whole cc0_stg2_0
abbrev oM : Memref sig .tc .vmem S512x512 .bf16 := Memref.whole cc0_stg3_0
abbrev rM : Memref sig .tc .vmem S512x512 .bf16 := Memref.whole cc0_scratch0

/-- Device `b`'s 128 rows of the gathered buffer, as a copy names them. -/
abbrev blkM (b : Dev nD) : Memref sig .tc .vmem S128x512 .bf16 :=
  rM.slice (Rect.unit (s := S512x512) (k0_off2 b) S128x512.size (k0_off2_inb b)) (fun _ => rfl)
/-- The same rows as the load and the store of a device's own block name them. -/
abbrev ownR (b : Dev nD) : Rect S512x512 := Rect.unit (s := S512x512) (k0_off1 b) S128x512.size (k0_off1_inb b)

/-- The runtime's barrier semaphore of collective id 0. -/
abbrev barS : Sem sig := (SemArray.scalar (sig.barrier 0 rfl) : Sems sig S_).sem
/-- The three send semaphores -/
abbrev sendS : Fin 3 → DmaSem sig
  | 0 => ((cc0_scratch1.slice (Rect.unit (s := S3) ![0] S1.size inb_S3_S1_0)).squeeze S_ squeezes_S1_S_).sem
  | 1 => ((cc0_scratch1.slice (Rect.unit (s := S3) ![1] S1.size inb_S3_S1_1)).squeeze S_ squeezes_S1_S_).sem
  | 2 => ((cc0_scratch1.slice (Rect.unit (s := S3) ![2] S1.size inb_S3_S1_2)).squeeze S_ squeezes_S1_S_).sem
/-- and the three receive semaphores. -/
abbrev recvS : Fin 3 → DmaSem sig
  | 0 => ((cc0_scratch2.slice (Rect.unit (s := S3) ![0] S1.size inb_S3_S1_0)).squeeze S_ squeezes_S1_S_).sem
  | 1 => ((cc0_scratch2.slice (Rect.unit (s := S3) ![1] S1.size inb_S3_S1_1)).squeeze S_ squeezes_S1_S_).sem
  | 2 => ((cc0_scratch2.slice (Rect.unit (s := S3) ![2] S1.size inb_S3_S1_2)).squeeze S_ squeezes_S1_S_).sem

abbrev barCell (c : Dev nD) : GSem nD τ sig := ((c : Thread nD τ), .reg barS)
abbrev sendCell (j : Fin 3) (c : Dev nD) : GSem nD τ sig := ((c : Thread nD τ), .dma (sendS j))
abbrev recvCell (j : Fin 3) (c : Dev nD) : GSem nD τ sig := ((c : Thread nD τ), .dma (recvS j))

/-- The seven cells of a device by name: the barrier, send `j`, receive `j`. -/
abbrev Cl : Type := Option (Bool × Fin 3)
abbrev csem : Cl → SemLoc sig
  | none => .reg barS
  | some (false, j) => .dma (sendS j)
  | some (true, j) => .dma (recvS j)
abbrev kcell (ck : Dev nD × Cl) : GSem nD τ sig := ((ck.1 : Thread nD τ), csem ck.2)
/-- The six the launch scopes to the kernel. -/
abbrev osem : Bool × Fin 3 → SemLoc sig := fun k => csem (some k)

/-- All seven names. -/
abbrev allCl : List Cl := [none, some (false, 0), some (false, 1), some (false, 2), some (true, 0), some (true, 1), some (true, 2)]

/-- Which of the seven a semaphore is, if any. -/
def clOf (s : SemLoc sig) : Option Cl := allCl.find? fun k => csem k = s
theorem clOf_csem (k : Cl) : clOf (csem k) = some k := by revert k; decide
theorem csem_inj : Function.Injective csem := fun a b h => by
  have := congrArg clOf h; rw [clOf_csem, clOf_csem] at this; exact Option.some.inj this

abbrev N : ℕ := (blkM 0).view.dmaCredit
theorem N_pos : 0 < N := View.dmaCredit_pos _ (by decide)

/-! ## What each device computes -/

/-- The tokens, the expert indices and the device's four experts, as staged. -/
def xstg (c : Dev nD) : (cc0_stg0_0 : Ref sig .tc).ty.Contents (Elt F) :=
  (win0_0.blk (0 : Fin 1)).view.read (Elt F) (m ((c : Thread nD τ).loc main_arg0))
def istg (c : Dev nD) : (cc0_stg1_0 : Ref sig .tc).ty.Contents (Elt F) :=
  (win0_1.blk (0 : Fin 1)).view.read (Elt F) (m ((c : Thread nD τ).loc main_arg2))
def wstg (c : Dev nD) : (cc0_stg2_0 : Ref sig .tc).ty.Contents (Elt F) :=
  (win0_2.blk (0 : Fin 1)).view.read (Elt F) (m ((c : Thread nD τ).loc main_arg3))

/-- One expert's matrix, as loaded. -/
abbrev wr0 : Rect S4x256x512 := Rect.unit (s := S4x256x512) ![0, 0, 0] S1x256x512.size inb_S4x256x512_S1x256x512_0_0_0
abbrev wr1 : Rect S4x256x512 := Rect.unit (s := S4x256x512) ![1, 0, 0] S1x256x512.size inb_S4x256x512_S1x256x512_1_0_0
abbrev wr2 : Rect S4x256x512 := Rect.unit (s := S4x256x512) ![2, 0, 0] S1x256x512.size inb_S4x256x512_S1x256x512_2_0_0
abbrev wr3 : Rect S4x256x512 := Rect.unit (s := S4x256x512) ![3, 0, 0] S1x256x512.size inb_S4x256x512_S1x256x512_3_0_0

/-- The word a device's position is computed to. -/
abbrev posWord (c : Dev nD) : BitVec 32 := Scalar.remsi (Scalar.divsi (Dev.word c) 1#32) 4#32

/-- Each token's row of the gathered buffer. -/
def rowIds (c : Dev nD) : IVec S512x1 32 := k0_pay1 (F := F) (istg m c)

/-- The block of 128 rows device `c` computes with its four experts. -/
def blkVal (c : Dev nD) : FVec F S128x512 .bf16 :=
  k0_pay4 (k0_pay3 (posWord c) (rowIds m c) (xstg m c)
    (wM.view.readAt (Elt F) wr0.toLoadRect (wstg m c)) (wM.view.readAt (Elt F) wr1.toLoadRect (wstg m c))
    (wM.view.readAt (Elt F) wr2.toLoadRect (wstg m c)) (wM.view.readAt (Elt F) wr3.toLoadRect (wstg m c)))

set_option backward.proofsInPublic true in
/-- The device whose rows a row of the gathered buffer belongs to. -/
def devOf (i : S512x512.Idx) : Dev nD := ⟨(i 0).val / 128, by
  have h : (i 0).val < 512 := (i 0).isLt
  exact Nat.div_lt_of_lt_mul h⟩
set_option backward.proofsInPublic true in
/-- The position of an element inside its device's block. -/
def inBlk (i : S512x512.Idx) : S128x512.Idx := fun a => match a with
  | ⟨0, _⟩ => ⟨(i 0).val % 128, Nat.mod_lt _ (by decide)⟩
  | ⟨1, _⟩ => ⟨(i 1).val, (i 1).isLt⟩

/-- The gathered buffer once every device's block is in place: the same on all devices. -/
def commAll : (cc0_scratch0 : Ref sig .tc).ty.Contents (Elt F) := fun i => blkVal m (devOf i) (inBlk i)

/-- What device `c` writes out. -/
def outAt (c : Dev nD) : (cc0_stg3_0 : Ref sig .tc).ty.Contents (Elt F) :=
  k0_pay5 (k0_pay2 (F := F) (rowIds m c) (iota .tc S512x512 32 [1] iota_S512x512_d1_w32)) (commAll m)

/-! ## Blocks of rows -/

/-- The elements of device `b`'s rows. -/
def rows (b : Dev nD) : Finset S512x512.Idx := Finset.univ.filter fun i => devOf i = b

theorem mem_rows {b : Dev nD} {i : S512x512.Idx} : Iff (i ∈ rows b) (devOf i = b) := by
  unfold rows; rw [Finset.mem_filter]; exact ⟨fun h => h.2, fun h => ⟨Finset.mem_univ _, h⟩⟩

theorem rows_of_off (b : Dev nD) (off : Fin 2 → Nat) (inb : ∀ a, off a + S128x512.size a ≤ S512x512.size a) (h : off = ![128 * b.val, 0]) :
    (Rect.unit (s := S512x512) off S128x512.size inb).set = rows b := by
  subst h
  ext i
  rw [mem_rows]
  refine Rect.mem_set_unit.trans ⟨fun h => ?_, fun h => ?_⟩
  · have h0 := h 0
    have h1 : 128 * b.val ≤ (i 0).val ∧ (i 0).val < 128 * b.val + 128 := h0
    refine Fin.ext ?_
    show (i 0).val / 128 = b.val
    omega
  · have h0 : (i 0).val / 128 = b.val := congrArg Fin.val h
    have h1 : (i 1).val < 512 := (i 1).isLt
    intro a
    fin_cases a
    · show 128 * b.val ≤ (i 0).val ∧ (i 0).val < 128 * b.val + 128
      omega
    · show 0 ≤ (i 1).val ∧ (i 1).val < 0 + 512
      omega

theorem blk_set (b : Dev nD) : (blkM b).view.set = rows b := by
  refine Eq.trans ?_ (rows_of_off b _ (k0_off2_inb b) (k0_off2_eq b))
  exact View.set_slice_whole _ _
theorem own_set (b : Dev nD) : ((rM : Memref sig .tc .vmem S512x512 .bf16).access (ownR b)).set = rows b := by
  refine Eq.trans ?_ (rows_of_off b _ (k0_off1_inb b) (k0_off1_eq b))
  exact View.set_slice_whole _ _

/-- Where an element of device `b`'s block lies in the gathered buffer: in `b`'s rows, at its own place. -/
theorem place (b : Dev nD) (off : Fin 2 → Nat) (inb : ∀ a, off a + S128x512.size a ≤ S512x512.size a) (h : off = ![128 * b.val, 0]) (x : S128x512.Idx) :
    devOf ((Rect.unit (s := S512x512) off S128x512.size inb).emb x) = b ∧ inBlk ((Rect.unit (s := S512x512) off S128x512.size inb).emb x) = x := by
  subst h
  have h0 : ((Rect.unit (s := S512x512) ![128 * b.val, 0] S128x512.size inb).emb x 0).val = 128 * b.val + 1 * (x 0).val := rfl
  have h1 : ((Rect.unit (s := S512x512) ![128 * b.val, 0] S128x512.size inb).emb x 1).val = 0 + 1 * (x 1).val := rfl
  have hx : (x 0).val < 128 := (x 0).isLt
  refine ⟨Fin.ext ?_, funext fun a => Fin.ext ?_⟩
  · show ((Rect.unit (s := S512x512) ![128 * b.val, 0] S128x512.size inb).emb x 0).val / 128 = b.val
    rw [h0]; omega
  · fin_cases a
    · show ((Rect.unit (s := S512x512) ![128 * b.val, 0] S128x512.size inb).emb x 0).val % 128 = (x 0).val
      rw [h0]; omega
    · show ((Rect.unit (s := S512x512) ![128 * b.val, 0] S128x512.size inb).emb x 1).val = (x 1).val
      rw [h1]; omega

/-- Device `b`'s block of the gathered buffer is what `b` computes. -/
theorem read_blk (b : Dev nD) : (blkM b).view.read (Elt F) (commAll m) = blkVal m b := by
  funext x
  have h := place b _ (k0_off2_inb b) (k0_off2_eq b) x
  show commAll m ((Rect.unit (s := S512x512) (k0_off2 b) S128x512.size (k0_off2_inb b)).emb x) = _
  unfold commAll
  rw [h.1, h.2]

/-- Written with what `b` computes, `b`'s rows hold the gathered buffer's; -/
theorem own_written (b : Dev nD) (f : (cc0_scratch0 : Ref sig .tc).ty.Contents (Elt F)) :
    ∀ i ∈ rows b, ((rM : Memref sig .tc .vmem S512x512 .bf16).access (ownR b)).write (Elt F) f (blkVal m b) Finset.univ i = commAll m i := by
  intro i hi
  rw [← own_set] at hi
  obtain ⟨x, -, rfl⟩ := Finset.mem_map.mp hi
  refine (View.write_emb_of_mem _ _ (Finset.mem_univ x)).trans ?_
  have h := place b _ (k0_off1_inb b) (k0_off1_eq b) x
  show _ = commAll m ((Rect.unit (s := S512x512) (k0_off1 b) S128x512.size (k0_off1_inb b)).emb x)
  unfold commAll
  rw [h.1, h.2]
  exact cast_eq _ _

/-- and so does a copy of them. -/
theorem copy_written (b : Dev nD) (f : (cc0_scratch0 : Ref sig .tc).ty.Contents (Elt F)) :
    ∀ i ∈ rows b, (blkM b).view.write (Elt F) f ((blkM b).view.read (Elt F) (commAll m)) Finset.univ i = commAll m i := by
  intro i hi
  rw [← blk_set] at hi
  obtain ⟨x, -, rfl⟩ := Finset.mem_map.mp hi
  exact View.write_emb_of_mem _ _ (Finset.mem_univ x)

/-- Device `b`'s rows of device `c`'s gathered buffer, at a share. -/
def blkPts (c b : Dev nD) (q : PosShare TreeShare) (f : Buf (Elt F) ((c : Thread nD τ).loc cc0_scratch0)) : sProp 𝕄 :=
  (c : Thread nD τ).loc cc0_scratch0 ↦[rows b]{q} f

omit [FloatOps F] in
instance blkPts_storable (c b : Dev nD) (q) (f) : BI.Storable (upEmb : UEmb _ 𝕄) (blkPts (F := F) c b q f) := by unfold blkPts; infer_instance

omit [FloatOps F] in
/-- The whole buffer is device `c`'s rows and the three others'. -/
theorem whole_eq (d c : Dev nD) (q : PosShare TreeShare) (f : Buf (Elt F) ((d : Thread nD τ).loc cc0_scratch0)) :
    ((d : Thread nD τ).loc cc0_scratch0 ↦{q} f : sProp 𝕄)
      = iprop(blkPts d c q f ∗ blkPts d (dn 0 c) q f ∗ blkPts d (dn 1 c) q f ∗ blkPts d (dn 2 c) q f) := by
  rw [Ring.pointsTo_blocks (ℓ := (d : Thread nD τ).loc cc0_scratch0) (B := Dev nD) rows
    (fun b b' h => Finset.disjoint_left.mpr fun i hi hi' => h ((mem_rows.mp hi).symm.trans (mem_rows.mp hi')))
    (Finset.ext fun i => ⟨fun _ => Finset.mem_univ _, fun _ => Finset.mem_biUnion.mpr ⟨devOf i, Finset.mem_univ _, mem_rows.mpr rfl⟩⟩),
    bigSep_univ_eq_bigSepL [c, dn 0 c, dn 1 c, dn 2 c] (by revert c; decide) (by revert c; decide)]
  rfl

/-- Four disjoint shares making up the whole: one for each copy in flight and one to load with. -/
abbrev shr : Fin 4 → PosShare TreeShare
  | 0 => fullShare.left.left | 1 => fullShare.left.right | 2 => fullShare.right.left | 3 => fullShare.right.right

omit [FloatOps F] in
theorem quarters (c b : Dev nD) (f : Buf (Elt F) ((c : Thread nD τ).loc cc0_scratch0)) :
    (blkPts c b fullShare f : sProp 𝕄) = iprop((blkPts c b (shr 0) f ∗ blkPts c b (shr 1) f) ∗ (blkPts c b (shr 2) f ∗ blkPts c b (shr 3) f)) := by
  unfold blkPts
  have h (q : PosShare TreeShare) : ((c : Thread nD τ).loc cc0_scratch0 ↦[rows b]{q} f : sProp 𝕄)
      = iprop(((c : Thread nD τ).loc cc0_scratch0 ↦[rows b]{q.left} f) ∗ ((c : Thread nD τ).loc cc0_scratch0 ↦[rows b]{q.right} f)) :=
    Entails.antisymm (pointsTo_share (PosShare.mem_left_op_right q)).1 (pointsTo_share (PosShare.mem_left_op_right q)).2
  rw [h fullShare, h fullShare.left, h fullShare.right]

/-! ## The schedule -/

/-- Duty `j` of `c`'s barrier, paid by the device `j + 1` places after: that device's place for `c`'s block. -/
def barPay (j : Fin 3) (c : Dev nD) : sProp 𝕄 := iprop(∃ f, blkPts (up j c) c fullShare f)
/-- Send `j`: the share of `c`'s own block the copy read. -/
def sendPay (j : Fin 3) (c : Dev nD) : sProp 𝕄 := blkPts c c (shr j.castSucc) (commAll m)
/-- Receive `j`: the block of the device `j + 1` places before, in place. -/
def recvPay (j : Fin 3) (c : Dev nD) : sProp 𝕄 := blkPts c (dn j c) fullShare (commAll m)

def pay (c : Dev nD) (k : Option Cl) (j : Fin 3) : sProp 𝕄 := match k with
  | some none => barPay j c
  | some (some (false, i)) => sendPay m i c
  | some (some (true, i)) => recvPay m i c
  | none => iprop(emp)

def dutiesOf : Option Cl → Finset (Fin 3)
  | some none => Finset.univ
  | some (some _) => {0}
  | none => ∅

/-- One round: a barrier has three duties of one unit, a send or a receive one duty of the block's credit. -/
def sched : Rounds.Schedule (GSem nD τ sig) (Fin 3) 𝕄 where
  duties g r := if r = 0 ∧ g.1.2 = .tc then dutiesOf (clOf g.2) else ∅
  unitless _ := False
  amount g _ _ := if clOf g.2 = some none then 1 else N
  payload g _ j := pay m g.1.1 (clOf g.2) j
  amount_pos g _ _ _ := by
    by_cases h : clOf g.2 = some none
    · rw [if_pos h]; exact Nat.one_pos
    · rw [if_neg h]; exact N_pos

instance sched_storable (g : GSem nD τ sig) (r : ℕ) (d : Fin 3) : BI.Storable (upEmb : UEmb _ 𝕄) ((sched (F := F) m).payload g r d) := by
  show BI.Storable upEmb (pay m g.1.1 (clOf g.2) d)
  unfold pay barPay sendPay recvPay
  split <;> infer_instance

section Sched
variable (c : Dev nD) (j : Fin 3)

theorem cl_bar : clOf (barCell c).2 = some none := clOf_csem none
theorem cl_send : clOf (sendCell j c).2 = some (some (false, j)) := clOf_csem (some (false, j))
theorem cl_recv : clOf (recvCell j c).2 = some (some (true, j)) := clOf_csem (some (true, j))

theorem duties_bar : (sched (F := F) m).duties (barCell c) 0 = Finset.univ := by
  show (if (0 : ℕ) = 0 ∧ (barCell c).1.2 = .tc then dutiesOf (clOf (barCell c).2) else ∅) = _
  rw [if_pos ⟨rfl, rfl⟩, cl_bar]; rfl
theorem duties_send : (sched (F := F) m).duties (sendCell j c) 0 = {0} := by
  show (if (0 : ℕ) = 0 ∧ (sendCell j c).1.2 = .tc then dutiesOf (clOf (sendCell j c).2) else ∅) = _
  rw [if_pos ⟨rfl, rfl⟩, cl_send]; rfl
theorem duties_recv : (sched (F := F) m).duties (recvCell j c) 0 = {0} := by
  show (if (0 : ℕ) = 0 ∧ (recvCell j c).1.2 = .tc then dutiesOf (clOf (recvCell j c).2) else ∅) = _
  rw [if_pos ⟨rfl, rfl⟩, cl_recv]; rfl
theorem duties_later (g : GSem nD τ sig) : ∀ r, 1 ≤ r → (sched (F := F) m).duties g r = ∅ :=
  fun r hr => if_neg fun h => by omega

theorem amount_bar (d : Fin 3) : (sched (F := F) m).amount (barCell c) 0 d = 1 := by
  show (if clOf (barCell c).2 = some none then 1 else N) = 1
  rw [if_pos (cl_bar c)]
theorem amount_send (d : Fin 3) : (sched (F := F) m).amount (sendCell j c) 0 d = N := by
  show (if clOf (sendCell j c).2 = some none then 1 else N) = N
  rw [if_neg (by rw [cl_send]; exact fun h => nomatch h)]
theorem amount_recv (d : Fin 3) : (sched (F := F) m).amount (recvCell j c) 0 d = N := by
  show (if clOf (recvCell j c).2 = some none then 1 else N) = N
  rw [if_neg (by rw [cl_recv]; exact fun h => nomatch h)]

theorem expect_bar : (sched (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_send : (sched (F := F) m).expect (sendCell j c) 0 = N := by
  unfold Schedule.expect Schedule.amountOf; rw [duties_send, Finset.sum_singleton, amount_send]
theorem expect_recv : (sched (F := F) m).expect (recvCell j c) 0 = N := by
  unfold Schedule.expect Schedule.amountOf; rw [duties_recv, Finset.sum_singleton, amount_recv]

theorem payload_bar (d : Fin 3) : (sched (F := F) m).payload (barCell c) 0 d = barPay d c := by
  show pay m c (clOf (barCell c).2) d = _
  rw [cl_bar]; rfl
theorem payload_send (d : Fin 3) : (sched (F := F) m).payload (sendCell j c) 0 d = sendPay m j c := by
  show pay m c (clOf (sendCell j c).2) d = _
  rw [cl_send]; rfl
theorem payload_recv (d : Fin 3) : (sched (F := F) m).payload (recvCell j c) 0 d = recvPay m j c := by
  show pay m c (clOf (recvCell j c).2) d = _
  rw [cl_recv]; rfl

/-- What a full wait on each cell brings. -/
theorem rest_bar : bigSep ((sched (F := F) m).duties (barCell c) 0 \ ∅) (fun d => (sched (F := F) m).payload (barCell c) 0 d)
    = iprop(barPay 0 c ∗ barPay 1 c ∗ barPay 2 c) := by
  rw [Finset.sdiff_empty, duties_bar, bigSep_univ_eq_bigSepL [0, 1, 2] (by decide) (by decide), bigSepL_cons_cons, bigSepL_cons_cons, bigSepL_singleton,
    payload_bar, payload_bar, payload_bar]
  rfl
theorem rest_send : bigSep ((sched (F := F) m).duties (sendCell j c) 0 \ ∅) (fun d => (sched (F := F) m).payload (sendCell j c) 0 d) = sendPay m j c := by
  rw [Finset.sdiff_empty, duties_send, bigSep_singleton, payload_send]
theorem rest_recv : bigSep ((sched (F := F) m).duties (recvCell j c) 0 \ ∅) (fun d => (sched (F := F) m).payload (recvCell j c) 0 d) = recvPay m j c := by
  rw [Finset.sdiff_empty, duties_recv, bigSep_singleton, payload_recv]

end Sched

/-! ## What each core owes at launch, and the levels -/

/-- The three copies' credits; -/
def O₁ (c : Dev nD) : CellTallies nD τ sig Unit :=
  tallyAt (recvCell 2 (up 2 c)) () N + tallyAt (recvCell 1 (up 1 c)) () N + tallyAt (recvCell 0 (up 0 c)) () N
/-- and the three barrier units, the first signal's last. -/
def O₀ (c : Dev nD) : CellTallies nD τ sig Unit :=
  O₁ c + tallyAt (barCell (dn 0 c)) () 1 + tallyAt (barCell (dn 1 c)) () 1 + tallyAt (barCell (dn 2 c)) () 1

def L (g : GSem nD τ sig) : Finset Unit := if g.1.2 = .tc then {()} else ∅
/-- Barriers at 1, receives at 2, everything else at 0. -/
def lv (g : GSem nD τ sig) (_ : Unit) : ℕ := match clOf g.2 with
  | some none => 1
  | some (some (true, _)) => 2
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by unfold lv; rw [cl_bar]
theorem lv_recv (j : Fin 3) (c : Dev nD) (u : Unit) : lv (recvCell j c) u = 2 := by unfold lv; rw [cl_recv]

theorem tally_pos {g g' : GSem nD τ sig} {n : ℕ} {u : Unit} (h : 0 < (tallyAt g () n : CellTallies nD τ sig Unit) g' u) : g' = g := by
  rw [tallyAt_apply] at h
  by_contra hn
  rw [if_neg fun h' => hn h'.1] at h
  exact Nat.lt_irrefl 0 h

theorem O₁_pos {c : Dev nD} {g : GSem nD τ sig} {u : Unit} (h : 0 < O₁ c g u) : ∃ j, g = recvCell j (up j c) := by
  unfold O₁ at h
  rw [Pi.add_apply, Finsupp.add_apply, Pi.add_apply, Finsupp.add_apply] at h
  rcases Nat.add_pos_iff_pos_or_pos.mp h with h | h
  · rcases Nat.add_pos_iff_pos_or_pos.mp h with h | h
    · exact ⟨2, tally_pos h⟩
    · exact ⟨1, tally_pos h⟩
  · exact ⟨0, tally_pos h⟩

theorem O₀_pos {c : Dev nD} {g : GSem nD τ sig} {u : Unit} (h : 0 < O₀ c g u) :
    (∃ j, g = recvCell j (up j c)) ∨ ∃ j, g = barCell (dn j c) := by
  unfold O₀ at h
  rw [Pi.add_apply, Finsupp.add_apply, Pi.add_apply, Finsupp.add_apply, Pi.add_apply, Finsupp.add_apply] at h
  rcases Nat.add_pos_iff_pos_or_pos.mp h with h | h
  · rcases Nat.add_pos_iff_pos_or_pos.mp h with h | h
    · rcases Nat.add_pos_iff_pos_or_pos.mp h with h | h
      · exact Or.inl (O₁_pos h)
      · exact Or.inr ⟨0, tally_pos h⟩
    · exact Or.inr ⟨1, tally_pos h⟩
  · exact Or.inr ⟨2, tally_pos h⟩

omit [FloatOps F] in
/-- A staging wait is below everything a device owes. -/
theorem mayWait_stage (c : Dev nD) (q : DmaSem sig) (hq : clOf (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨j, rfl⟩ | ⟨j, rfl⟩ <;> exact Finset.mem_singleton_self _)
      (fun p hp => by rw [Finset.mem_singleton.mp hp]; unfold lv; rw [hq])
      (fun g u hg => by
        rcases O₀_pos hg with ⟨j, rfl⟩ | ⟨j, rfl⟩
        · rw [lv_recv]; decide
        · rw [lv_bar]; decide)
  · rw [MayWait_zero]; iintro -; iempintro

omit [FloatOps F] in
/-- A barrier wait is below the receives still owed. -/
theorem mayWait_bar (c : Dev nD) : (levAts L lv : sProp 𝕄) ⊢ MayWait (c : Thread nD τ) (.reg barS) () (O₁ c) :=
  MayOwe.of_cut (L := L) (lev := lv) 1 (fun p hp => by rw [Finset.mem_singleton.mp hp, L_tc]; exact Finset.mem_singleton_self _)
    (fun g u hg => by obtain ⟨j, rfl⟩ := O₁_pos hg; exact Finset.mem_singleton_self _)
    (fun p hp => by rw [Finset.mem_singleton.mp hp]; exact (lv_bar c ()).le)
    (fun g u hg => by obtain ⟨j, rfl⟩ := O₁_pos hg; rw [lv_recv]; decide)

end Cert.Exchange

end
-- ==== Proof.Body.lean ====
/- The kernel's body on one device, effect by effect: from its share of the exchange's records and its buffers to the gathered
   buffer full and the result written. -/
module

public import proofs.«01_k».proof.Proof.Cells

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What a device holds of the exchange -/

/-- Every cell's invariant, and every cell at its first round: anyone's, for good. -/
def records (K : Dev nD × Cl → ℕ) : sProp 𝕄 :=
  iprop((bigSep Finset.univ fun ck => cellInv ER (sched m) (K ck) (kcell ck)) ∗ bigSep Finset.univ fun ck => reached ER (kcell ck) 0)

instance records_persistent (K : Dev nD × Cl → ℕ) : BI.Persistent (records m K) := by unfold records; infer_instance

theorem inv_at (K : Dev nD × Cl → ℕ) (c : Dev nD) (k : Cl) : records m K ⊢ cellInv ER (sched m) (K (c, k)) (kcell (c, k)) := by
  unfold records
  iintro ⟨#H, #_⟩
  iapply (show _ ⊢ _ from bigSep_elim (Φ := fun ck => cellInv ER (sched m) (K ck) (kcell ck)) (Finset.mem_univ (c, k))); iexact H
theorem reached_at (K : Dev nD × Cl → ℕ) (c : Dev nD) (k : Cl) : records m K ⊢ reached ER (kcell (c, k)) 0 := by
  unfold records
  iintro ⟨#_, #H⟩
  iapply (show _ ⊢ _ from bigSep_elim (Φ := fun ck => reached ER (kcell ck) 0) (Finset.mem_univ (c, k))); iexact H

/-- The duties device `c` pays: one unit to each peer's barrier, its own three sends, a receive of each peer. -/
def payTok (j : Fin 3) (c : Dev nD) : sProp 𝕄 :=
  iprop(dutyTok ER (barCell (dn j c)) 0 j ∗ dutyTok ER (sendCell j c) 0 0 ∗ dutyTok ER (recvCell j (up j c)) 0 0)

/-- Device `c`'s own: its position on each of its seven cells, and what it pays with. -/
def linear (c : Dev nD) : sProp 𝕄 :=
  iprop(atPos ER (barCell c) 0 ∅ 0
    ∗ (atPos ER (sendCell 0 c) 0 ∅ 0 ∗ atPos ER (sendCell 1 c) 0 ∅ 0 ∗ atPos ER (sendCell 2 c) 0 ∅ 0)
    ∗ (atPos ER (recvCell 0 c) 0 ∅ 0 ∗ atPos ER (recvCell 1 c) 0 ∅ 0 ∗ atPos ER (recvCell 2 c) 0 ∅ 0)
    ∗ payTok 0 c ∗ payTok 1 c ∗ payTok 2 c)

/-- With the credits others owe it, and the levels: what its body starts from. -/
def start (c : Dev nD) : sProp 𝕄 :=
  iprop((∃ K, records m K ∗ linear c) ∗ cred (tallyAt (barCell c) () 3)
    ∗ (cred (tallyAt (recvCell 0 c) () N) ∗ cred (tallyAt (recvCell 1 c) () N) ∗ cred (tallyAt (recvCell 2 c) () N)) ∗ levAts L lv)

def Φ₀ (c : Dev nD) : sProp 𝕄 := iprop(start m c ∗ ∃ f, ((c : Thread nD τ).loc cc0_scratch0) ↦{fullShare} f)
/-- At the end the gathered buffer is whole and every cell is at zero. -/
def Φ₁ (c : Dev nD) : sProp 𝕄 :=
  iprop((((c : Thread nD τ).loc cc0_scratch0) ↦{fullShare} commAll m) ∗ semVal (barCell c) 0
    ∗ (semVal (sendCell 0 c) 0 ∗ semVal (sendCell 1 c) 0 ∗ semVal (sendCell 2 c) 0)
    ∗ (semVal (recvCell 0 c) 0 ∗ semVal (recvCell 1 c) 0 ∗ semVal (recvCell 2 c) 0))

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => istg m c
    | ⟨2, _⟩ => wstg m c
    | ⟨3, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The rules at this exchange's cells -/

section Body

variable (K : Dev nD × Cl → ℕ)

/-- A signal to the device `j + 1` places before, with this device's place for that device's block. -/
theorem wp_signal_peer (j : Fin 3) (c n : Dev nD) (hn : n = dn j c) {α : Type} {Q : α → sProp 𝕄} {k : PUnit → Prog (TpuEff nD τ sig (Elt F) Λ₀ .tc) α}
    (f : Buf (Elt F) ((c : Thread nD τ).loc cc0_scratch0)) (O : CellTallies nD τ sig Unit) (W : Waits sig Unit) :
    iprop(records m K ∗ owes (c : Thread nD τ) (O + tallyAt (barCell (dn j c)) () 1) W ∗ dutyTok ER (barCell (dn j c)) 0 j ∗ blkPts c (dn j c) fullShare f)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS (1#32).toNat) k) Q) := by
  subst hn
  iintro ⟨#HR, HO, Ht, Hb⟩ Hk
  iapply (Rounds.wp_signal 𝒱₀ ER (sched m) (c : Thread nD τ) none (dst := (dn j c : Thread nD τ)) (κ := K (dn j c, none))
      (d := j) (by rw [duties_bar]; exact Finset.mem_univ _) ((amount_bar m (dn j c) j).trans (by decide)) () O rfl)
    $$ [HO Ht Hb]
  · isplitr; · iapply (inv_at m K (dn j c) none); iexact HR
    isplitl [HO]; · iexact HO
    isplitl [Ht]; · iexact Ht
    isplitl [Hb]
    · rw [payload_bar]; unfold barPay; rw [up_dn]; iexists f; iexact Hb
    · iapply (reached_at m K (dn j c) none); iexact HR
  iexact Hk

/-- Once sent, its own block at the read share is the send duty's payload; -/
theorem pay_send_blk (c : Dev nD) (j : Fin 3) :
    ((blkM c).view.loc (c : Thread nD τ) ↦[(blkM c).view.set]{shr j.castSucc} commAll m : sProp 𝕄) ⊢ (sched (F := F) m).payload (sendCell j c) 0 0 := by
  rw [payload_send, blk_set]; exact BI.Entails.refl _
/-- the block as the copy leaves it on the peer is the receive duty's. -/
theorem pay_recv_blk (c : Dev nD) (j : Fin 3) (fn : Buf (Elt F) ((up j c : Thread nD τ).loc cc0_scratch0)) :
    ((blkM c).view.loc (up j c : Thread nD τ) ↦[(blkM c).view.set]{fullShare}
        (blkM c).view.write (Elt F) fn ((blkM c).view.read (Elt F) (commAll m)) Finset.univ : sProp 𝕄)
      ⊢ (sched (F := F) m).payload (recvCell j (up j c)) 0 0 := by
  rw [payload_recv, blk_set, recvPay, blkPts, dn_up]
  exact Entails.of_eq (pointsTo_congr (copy_written m c fn))

/-- The copy of its own block to the device `j + 1` places after. -/
theorem wp_copy_peer (j : Fin 3) (c n : Dev nD) (hn : n = up j c) (sS rS : DmaSem sig) (hsS : sS = sendS j) (hrS : rS = recvS j)
    {hsc : (blkM c : Memref sig (Dev.tc n : Thread nD τ).2.kind .vmem S128x512 .bf16).view.ref.isScScratch = false}
    {hsrc : (blkM c).view.WordExact} {hdst : (blkM c).view.WordExact}
    {hsem : DmaTarget.Typed .vmem (.dma rS) (.remote (Dev.tc n : Thread nD τ) (blkM c) (.dma sS) hsc)}
    {α : Type} {Q : α → sProp 𝕄} {k : PUnit → Prog (TpuEff nD τ sig (Elt F) Λ₀ .tc) α}
    (fn : Buf (Elt F) ((up j c : Thread nD τ).loc cc0_scratch0)) (O : CellTallies nD τ sig Unit) (W : Waits sig Unit) :
    iprop(records m K ∗ blkPts c c (shr j.castSucc) (commAll m) ∗ blkPts (up j c) c fullShare fn
        ∗ owes (c : Thread nD τ) (O + tallyAt (recvCell j (up j c)) () N) W
        ∗ dutyTok ER (sendCell j c) 0 0 ∗ dutyTok ER (recvCell j (up j c)) 0 0)
      ⊢ iprop(((cred (tallyAt (sendCell j c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (blkM c) (.remote (Dev.tc n : Thread nD τ) (blkM c) (.dma sS) hsc) (.dma rS) hsrc hdst hsem) k) Q) := by
  subst hn hsS hrS
  iintro ⟨#HR, Hs, Hd, HO, Ht, Hu⟩ Hk
  unfold blkPts
  rw [← blk_set c]
  iapply (Rounds.wp_send_pointsTo 𝒱₀ ER (sched m) (c : Thread nD τ) none (κ₁ := K (c, some (false, j))) (κ₂ := K (up j c, some (true, j)))
    (r₁ := 0) (r₂ := 0) (d₁ := 0) (d₂ := 0) (fd := fn)
    (by rw [duties_send]; exact Finset.mem_singleton_self _) (by rw [duties_recv]; exact Finset.mem_singleton_self _)
    () () N (by rfl) (amount_send m c j 0) (amount_recv m (up j c) j 0) O rfl (W := W)
    (by exact pay_send_blk m c j) (by exact pay_recv_blk m c j fn)) $$ [Hs Hd HO Ht Hu]
  · isplitr; · iapply (inv_at m K c (some (false, j))); iexact HR
    isplitr; · iapply (inv_at m K (up j c) (some (true, j))); iexact HR
    isplitl [Hs]; · iexact Hs
    isplitl [Hd]; · iexact Hd
    isplitl [HO]; · iexact HO
    isplitl [Ht]; · iexact Ht
    isplitr; · iapply (reached_at m K c (some (false, j))); iexact HR
    isplitl [Hu]; · iexact Hu
    iapply (reached_at m K (up j c) (some (true, j))); iexact HR
  iexact Hk

/-- A wait on its receive `j`: the block of the device `j + 1` places before is in place. -/
theorem wp_wait_recv (j : Fin 3) (c : Dev nD) (rS : DmaSem sig) (hrS : rS = recvS j) {hsrc : (blkM c).view.WordExact} {hdst : (blkM c).view.WordExact}
    {α : Type} {Q : α → sProp 𝕄} {k : PUnit → Prog (TpuEff nD τ sig (Elt F) Λ₀ .tc) α} (O : CellTallies nD τ sig Unit) (hO : O = 0) (W : Waits sig Unit) :
    iprop(records m K ∗ cred (tallyAt (recvCell j c) () N) ∗ owes (c : Thread nD τ) O W ∗ atPos ER (recvCell j c) 0 ∅ 0)
      ⊢ iprop(((owes (c : Thread nD τ) O (insert (SemLoc.dma (recvS j), ()) W) ∗ atPos ER (recvCell j c) (0 + 1) ∅ 0 ∗ recvPay m j c)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 rS (blkM c) (blkM c) hsrc hdst) k) Q) := by
  subst hrS hO
  iintro ⟨#HR, Hc, HO, Ha⟩ Hk
  iapply (Rounds.wp_wait_rest_token 𝒱₀ ER (sched m) (c : Thread nD τ) none (κ := K (c, some (true, j)))
      (wpE_waitDma2_eq 𝒱₀ (c : Thread nD τ) none Set.univ) (Set.mem_univ _) () (O := 0) (W := W) (R := 0) (m := 0) (T := ∅)
      (by rw [Nat.zero_add]; exact (expect_recv m c j).symm)) $$ [Hc HO Ha]
  · isplitr; · iapply (inv_at m K c (some (true, j))); iexact HR
    isplitl [Hc]; · iexact Hc
    isplitl [HO]; · iexact HO
    isplitr; · rw [MayWait_zero]; iempintro
    iexact Ha
  iintro ⟨HO, Ha, -, Hp⟩
  iapply Hk
  isplitl [HO]; · iexact HO
  isplitl [Ha]; · iexact Ha
  iapply (Entails.of_eq (rest_recv m c j)); iexact Hp

/-- A wait on its send `j`: the share of its own block is back. -/
theorem wp_wait_send (j : Fin 3) (c : Dev nD) (sS : DmaSem sig) (hsS : sS = sendS j) {hsrc : (blkM c).view.WordExact} {hdst : (blkM c).view.WordExact}
    {α : Type} {Q : α → sProp 𝕄} {k : PUnit → Prog (TpuEff nD τ sig (Elt F) Λ₀ .tc) α} (O : CellTallies nD τ sig Unit) (hO : O = 0) (W : Waits sig Unit) :
    iprop(records m K ∗ cred (tallyAt (sendCell j c) () N) ∗ owes (c : Thread nD τ) O W ∗ atPos ER (sendCell j c) 0 ∅ 0)
      ⊢ iprop(((owes (c : Thread nD τ) O (insert (SemLoc.dma (sendS j), ()) W) ∗ atPos ER (sendCell j c) (0 + 1) ∅ 0 ∗ sendPay m j c)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sS (blkM c) (blkM c) hsrc hdst) k) Q) := by
  subst hsS hO
  iintro ⟨#HR, Hc, HO, Ha⟩ Hk
  iapply (Rounds.wp_wait_rest_token 𝒱₀ ER (sched m) (c : Thread nD τ) none (κ := K (c, some (false, j)))
      (wpE_waitDma2_eq 𝒱₀ (c : Thread nD τ) none Set.univ) (Set.mem_univ _) () (O := 0) (W := W) (R := 0) (m := 0) (T := ∅)
      (by rw [Nat.zero_add]; exact (expect_send m c j).symm)) $$ [Hc HO Ha]
  · isplitr; · iapply (inv_at m K c (some (false, j))); iexact HR
    isplitl [Hc]; · iexact Hc
    isplitl [HO]; · iexact HO
    isplitr; · rw [MayWait_zero]; iempintro
    iexact Ha
  iintro ⟨HO, Ha, -, Hp⟩
  iapply Hk
  isplitl [HO]; · iexact HO
  isplitl [Ha]; · iexact Ha
  iapply (Entails.of_eq (rest_send m c j)); iexact Hp

/-- A cell whose only round is over closes: its counter is at zero. -/
theorem close_cell (c : Dev nD) (k : Cl) : iprop(records m K ∗ atPos ER (kcell (c, k)) (0 + 1) ∅ 0) ⊢ (|={Set.univ}=> semVal (kcell (c, k)) 0 : sProp 𝕄) := by
  iintro ⟨#HR, Ha⟩
  imod (Rounds.cell_close ER (sched m) (Set.mem_univ (K (c, k))) (fun h => h) (R := 0 + 1) (duties_later m (kcell (c, k)))) $$ [Ha] with Hz
  · isplitr; · iapply (inv_at m K c k); iexact HR
    iexact Ha
  imodintro; iexact Hz

/-! ## Shares of the gathered buffer -/

/-- Its own rows, once its block is stored there, in four shares. -/
theorem own_stored (c : Dev nD) (f : Buf (Elt F) ((c : Thread nD τ).loc cc0_scratch0)) :
    ((c : Thread nD τ).loc cc0_scratch0 ↦[rows c]{fullShare} ((rM : Memref sig .tc .vmem S512x512 .bf16).access (ownR c)).write (Elt F) f
          (k0_pay4 (k0_pay3 (posWord c) (k0_pay1 (F := F) (istg m c)) (xstg m c)
            (wM.view.readAt (Elt F) wr0.toLoadRect (wstg m c)) (wM.view.readAt (Elt F) wr1.toLoadRect (wstg m c))
            (wM.view.readAt (Elt F) wr2.toLoadRect (wstg m c)) (wM.view.readAt (Elt F) wr3.toLoadRect (wstg m c)))) Finset.univ : sProp 𝕄)
      ⊢ iprop((blkPts c c (shr 0) (commAll m) ∗ blkPts c c (shr 1) (commAll m)) ∗ (blkPts c c (shr 2) (commAll m) ∗ blkPts c c (shr 3) (commAll m))) :=
  (Entails.of_eq (pointsTo_congr (own_written m c f))).trans (Entails.of_eq (quarters c c (commAll m)))

/-- What is left of the three received blocks when a quarter of each is taken out. -/
def rest (c : Dev nD) : sProp 𝕄 :=
  iprop(((blkPts c (dn 0 c) (shr 0) (commAll m) ∗ blkPts c (dn 0 c) (shr 1) (commAll m)) ∗ blkPts c (dn 0 c) (shr 2) (commAll m))
    ∗ ((blkPts c (dn 1 c) (shr 0) (commAll m) ∗ blkPts c (dn 1 c) (shr 1) (commAll m)) ∗ blkPts c (dn 1 c) (shr 2) (commAll m))
    ∗ ((blkPts c (dn 2 c) (shr 0) (commAll m) ∗ blkPts c (dn 2 c) (shr 1) (commAll m)) ∗ blkPts c (dn 2 c) (shr 2) (commAll m)))

/-- A quarter of its own rows and the received blocks: a quarter of the whole buffer. -/
theorem gather_share (c : Dev nD) :
    iprop(blkPts c c (shr 3) (commAll m) ∗ recvPay m 0 c ∗ recvPay m 1 c ∗ recvPay m 2 c)
      ⊢ (iprop(((c : Thread nD τ).loc cc0_scratch0 ↦{shr 3} commAll m) ∗ rest m c) : sProp 𝕄) := by
  unfold recvPay rest
  rw [quarters c (dn 0 c), quarters c (dn 1 c), quarters c (dn 2 c), whole_eq c c (shr 3)]
  iintro ⟨H, ⟨⟨A0, A1⟩, ⟨A2, A3⟩⟩, ⟨⟨B0, B1⟩, ⟨B2, B3⟩⟩, ⟨⟨C0, C1⟩, ⟨C2, C3⟩⟩⟩
  isplitl [H A3 B3 C3]
  · isplitl [H]; · iexact H
    isplitl [A3]; · iexact A3
    isplitl [B3]; · iexact B3
    iexact C3
  isplitl [A0 A1 A2]
  · isplitl [A0 A1]
    · isplitl [A0]; · iexact A0
      iexact A1
    iexact A2
  isplitl [B0 B1 B2]
  · isplitl [B0 B1]
    · isplitl [B0]; · iexact B0
      iexact B1
    iexact B2
  isplitl [C0 C1]
  · isplitl [C0]; · iexact C0
    iexact C1
  iexact C2

/-- With the shares the copies had read back, the whole buffer. -/
theorem gather_full (c : Dev nD) :
    iprop(((c : Thread nD τ).loc cc0_scratch0 ↦{shr 3} commAll m) ∗ rest m c ∗ sendPay m 0 c ∗ sendPay m 1 c ∗ sendPay m 2 c)
      ⊢ ((c : Thread nD τ).loc cc0_scratch0 ↦{fullShare} commAll m : sProp 𝕄) := by
  unfold sendPay rest
  rw [whole_eq c c (shr 3), whole_eq c c fullShare, quarters c c, quarters c (dn 0 c), quarters c (dn 1 c), quarters c (dn 2 c)]
  iintro ⟨⟨H, A3, B3, C3⟩, ⟨⟨⟨A0, A1⟩, A2⟩, ⟨⟨B0, B1⟩, B2⟩, ⟨⟨C0, C1⟩, C2⟩⟩, H0, H1, H2⟩
  isplitl [H H0 H1 H2]
  · isplitl [H0 H1]
    · isplitl [H0]; · iexact H0
      iexact H1
    isplitl [H2]; · iexact H2
    iexact H
  isplitl [A0 A1 A2 A3]
  · isplitl [A0 A1]
    · isplitl [A0]; · iexact A0
      iexact A1
    isplitl [A2]; · iexact A2
    iexact A3
  isplitl [B0 B1 B2 B3]
  · isplitl [B0 B1]
    · isplitl [B0]; · iexact B0
      iexact B1
    isplitl [B2]; · iexact B2
    iexact B3
  isplitl [C0 C1]
  · isplitl [C0]; · iexact C0
    iexact C1
  isplitl [C2]; · iexact C2
  iexact C3

/-! ## The loads and the stores of whole buffers -/

theorem hz : (![0, 0] : Fin 2 → Nat) = fun _ => 0 := funext fun a => by fin_cases a <;> rfl

abbrev iR : Rect S512x1 := Rect.unit (s := S512x1) ![0, 0] S512x1.size inb_S512x1_S512x1_0_0
abbrev xR : Rect S512x256 := Rect.unit (s := S512x256) ![0, 0] S512x256.size inb_S512x256_S512x256_0_0
abbrev fR : Rect S512x512 := Rect.unit (s := S512x512) ![0, 0] S512x512.size inb_S512x512_S512x512_0_0

omit [FloatOps F] in
theorem read_i (f : (cc0_stg1_0 : Ref sig .tc).ty.Contents (Elt F)) : iM.view.readAt (Elt F) iR.toLoadRect f = f :=
  Memref.readAt_unit_zero (Elt F) cc0_stg1_0 hz _ f
omit [FloatOps F] in
theorem read_x (f : (cc0_stg0_0 : Ref sig .tc).ty.Contents (Elt F)) : xM.view.readAt (Elt F) xR.toLoadRect f = f :=
  Memref.readAt_unit_zero (Elt F) cc0_stg0_0 hz _ f
omit [FloatOps F] in
theorem read_r (f : (cc0_scratch0 : Ref sig .tc).ty.Contents (Elt F)) : rM.view.readAt (Elt F) fR.toLoadRect f = f :=
  Memref.readAt_unit_zero (Elt F) cc0_scratch0 hz _ f
omit [FloatOps F] in
theorem write_out (f w : (cc0_stg3_0 : Ref sig .tc).ty.Contents (Elt F)) :
    ((oM : Memref sig .tc .vmem S512x512 .bf16).access fR : View sig .tc _ _ _).write (Elt F) f w Finset.univ = w :=
  Memref.write_access_unit_zero_univ (Elt F) cc0_stg3_0 hz _ f w

/-! ## The body -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () (t0_0 : Fin cfg0.N).castSucc
    ∗ (∃ d, stg c cc0_stg0_0 ((dats m 0 c).before (0 : Fin 4) t0_0 d))
    ∗ (∃ d, stg c cc0_stg1_0 ((dats m 0 c).before (1 : Fin 4) t0_0 d))
    ∗ (∃ d, stg c cc0_stg2_0 ((dats m 0 c).before (2 : Fin 4) t0_0 d))
    ∗ (∃ d, stg c cc0_stg3_0 ((dats m 0 c).before (3 : Fin 4) t0_0 d)))

def bodyPost (c : Dev nD) : sProp 𝕄 :=
  iprop(Φ₁ m c ∗ (dats m 0 c).owesAt () (t0_0 : Fin cfg0.N).succ ∗ stg c cc0_stg0_0 (xstg m c) ∗ stg c cc0_stg1_0 (istg m c) ∗ stg c cc0_stg2_0 (wstg m c) ∗ stg c cc0_stg3_0 (outAt m c))

set_option maxHeartbeats 1600000 in
/-- The body, one rule per effect in program order. -/
theorem sound_body (c : Dev nD) (Kt : PUnit → sProp 𝕄) :
    iprop(bodyPre m c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) cc0_scratch1 cc0_scratch2) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  simp only [semSignalWord, semWaitWord, Prog.lift, Prog.bind_op, Prog.bind_ret, Prog.pure_eq_ret, wp_deviceId]
  unfold bodyPre Φ₀ start linear payTok
  iintro ⟨⟨⟨⟨⟨%K, #HR, HaB, ⟨HaS0, HaS1, HaS2⟩, ⟨HaR0, HaR1, HaR2⟩, ⟨HtB0, HtS0, HtR0⟩, ⟨HtB1, HtS1, HtR1⟩, ⟨HtB2, HtS2, HtR2⟩⟩, HcB, ⟨HcR0, HcR1, HcR2⟩, #Hlev⟩, ⟨%f0, Hscr⟩⟩,
    Ho, ⟨%d0, %g0, %hg0, Hx⟩, ⟨%d1, %g1, %hg1, Hi⟩, ⟨%d2, %g2, %hg2, Hw⟩, ⟨%d3, %g3, %hg3, Hout⟩⟩, Hk⟩
  have hx : g0 = xstg m c := by rw [hg0]; unfold Dat.before; rw [if_pos (fetch0_0 t0_0)]; rfl
  have hi : g1 = istg m c := by rw [hg1]; unfold Dat.before; rw [if_pos (fetch0_1 t0_0)]; rfl
  have hw : g2 = wstg m c := by rw [hg2]; unfold Dat.before; rw [if_pos (fetch0_2 t0_0)]; rfl
  subst hx hi hw
  unfold Dat.owesAt Pipeline.owesWithin
  icases Ho with ⟨%W, %hW, HO⟩
  rw [show (dats m 0 c).owed (t0_0 : Fin cfg0.N).castSucc = O₀ c from rfl]
  -- the gathered buffer is taken apart: each peer's rows go to that peer with a signal
  ihave Hscr := (Entails.of_eq (whole_eq c c fullShare f0)) $$ Hscr
  icases Hscr with ⟨Hown, Hb0, Hb1, Hb2⟩
  unfold O₀
  iapply (wp_signal_peer m K 2 c _ (dev1_eq c) f0 _ W) $$ [HO HtB2 Hb2]
  · isplitr; · iexact HR
    isplitl [HO]; · iexact HO
    isplitl [HtB2]; · iexact HtB2
    iexact Hb2
  iintro HO
  iapply (wp_signal_peer m K 1 c _ (dev2_eq c) f0 _ W) $$ [HO HtB1 Hb1]
  · isplitr; · iexact HR
    isplitl [HO]; · iexact HO
    isplitl [HtB1]; · iexact HtB1
    iexact Hb1
  iintro HO
  iapply (wp_signal_peer m K 0 c _ (dev3_eq c) f0 _ W) $$ [HO HtB0 Hb0]
  · isplitr; · iexact HR
    isplitl [HO]; · iexact HO
    isplitl [HtB0]; · iexact HtB0
    iexact Hb0
  iintro HO
  -- the wait for all three peers: their places for this device's block
  iapply (Rounds.wp_wait_rest_token 𝒱₀ ER (sched m) (c : Thread nD τ) none (κ := K (c, none))
      (wpE_semWait_eq 𝒱₀ (c : Thread nD τ) none Set.univ) (Set.mem_univ _) () (O := O₁ c) (W := W) (R := 0) (m := 0) (T := ∅)
      (by rw [expect_bar]; decide)) $$ [HcB HO HaB]
  · isplitr; · iapply (inv_at m K c none); iexact HR
    isplitl [HcB]; · iexact HcB
    isplitl [HO]; · iexact HO
    isplitr; · iapply (mayWait_bar c); iexact Hlev
    iexact HaB
  iintro ⟨HO, HaB, -, Hpay⟩
  ihave Hp := (Entails.of_eq (rest_bar m c)) $$ Hpay
  unfold barPay
  icases Hp with ⟨⟨%p0, Hp0⟩, ⟨%p1, Hp1⟩, ⟨%p2, Hp2⟩⟩
  -- the loads this device's block is computed from
  iapply (wp_load 𝒱₀ (c : Thread nD τ) none Set.univ (m := iM) (Finset.subset_univ _)) $$ Hi; iintro Hi
  rw [read_i]
  iapply (wp_load 𝒱₀ (c : Thread nD τ) none Set.univ (m := xM) (Finset.subset_univ _)) $$ Hx; iintro Hx
  rw [read_x]
  iapply (wp_load 𝒱₀ (c : Thread nD τ) none Set.univ (m := wM) (Finset.subset_univ _)) $$ Hw; iintro Hw
  iapply (wp_load 𝒱₀ (c : Thread nD τ) none Set.univ (m := wM) (Finset.subset_univ _)) $$ Hw; iintro Hw
  iapply (wp_load 𝒱₀ (c : Thread nD τ) none Set.univ (m := wM) (Finset.subset_univ _)) $$ Hw; iintro Hw
  iapply (wp_load 𝒱₀ (c : Thread nD τ) none Set.univ (m := wM) (Finset.subset_univ _)) $$ Hw; iintro Hw
  -- its block is stored in its own rows, which now hold the gathered buffer's
  ihave Hown := (Entails.of_eq (show blkPts c c fullShare f0 = ((c : Thread nD τ).loc cc0_scratch0 ↦[rows c]{fullShare} f0 : sProp 𝕄) from rfl)) $$ Hown
  iapply (wp_load_rect 𝒱₀ (c : Thread nD τ) none Set.univ (m := rM) (r := ownR c) (by rw [own_set])) $$ Hown; iintro Hown
  iapply (wp_store 𝒱₀ (c : Thread nD τ) none Set.univ (m := rM) (r := ownR c) (Mk := Finset.univ) (by rw [View.setOn_univ, own_set])) $$ Hown; iintro Hown
  ihave Hown := (own_stored m c f0) $$ Hown
  icases Hown with ⟨⟨Hq0, Hq1⟩, ⟨Hq2, Hq3⟩⟩
  -- the three copies, each reading a share of it
  unfold O₁
  iapply (wp_copy_peer m K 0 c _ (dev4_eq c) _ _ rfl rfl p0 _ _) $$ [Hq0 Hp0 HO HtS0 HtR0]
  · isplitr; · iexact HR
    isplitl [Hq0]; · iexact Hq0
    isplitl [Hp0]; · iexact Hp0
    isplitl [HO]; · iexact HO
    isplitl [HtS0]; · iexact HtS0
    iexact HtR0
  iintro ⟨HcS0, HO⟩
  iapply (wp_copy_peer m K 1 c _ (dev5_eq c) _ _ rfl rfl p1 _ _) $$ [Hq1 Hp1 HO HtS1 HtR1]
  · isplitr; · iexact HR
    isplitl [Hq1]; · iexact Hq1
    isplitl [Hp1]; · iexact Hp1
    isplitl [HO]; · iexact HO
    isplitl [HtS1]; · iexact HtS1
    iexact HtR1
  iintro ⟨HcS1, HO⟩
  ihave HO := (Entails.of_eq (congrArg (fun O => owes (c : Thread nD τ) O _) (zero_add (tallyAt (recvCell 2 (up 2 c)) () N)).symm)) $$ HO
  iapply (wp_copy_peer m K 2 c _ (dev6_eq c) _ _ rfl rfl p2 0 _) $$ [Hq2 Hp2 HO HtS2 HtR2]
  · isplitr; · iexact HR
    isplitl [Hq2]; · iexact Hq2
    isplitl [Hp2]; · iexact Hp2
    isplitl [HO]; · iexact HO
    isplitl [HtS2]; · iexact HtS2
    iexact HtR2
  iintro ⟨HcS2, HO⟩
  -- the waits for the three peers' blocks
  iapply (wp_wait_recv m K 0 c _ rfl 0 rfl _) $$ [HcR0 HO HaR0]
  · isplitr; · iexact HR
    isplitl [HcR0]; · iexact HcR0
    isplitl [HO]; · iexact HO
    iexact HaR0
  iintro ⟨HO, HaR0, Hr0⟩
  iapply (wp_wait_recv m K 1 c _ rfl 0 rfl _) $$ [HcR1 HO HaR1]
  · isplitr; · iexact HR
    isplitl [HcR1]; · iexact HcR1
    isplitl [HO]; · iexact HO
    iexact HaR1
  iintro ⟨HO, HaR1, Hr1⟩
  iapply (wp_wait_recv m K 2 c _ rfl 0 rfl _) $$ [HcR2 HO HaR2]
  · isplitr; · iexact HR
    isplitl [HcR2]; · iexact HcR2
    isplitl [HO]; · iexact HO
    iexact HaR2
  iintro ⟨HO, HaR2, Hr2⟩
  -- the gathered buffer, at the share left over by the copies still unawaited, is loaded
  ihave Hall := (gather_share m c) $$ [Hq3 Hr0 Hr1 Hr2]
  · isplitl [Hq3]; · iexact Hq3
    isplitl [Hr0]; · iexact Hr0
    isplitl [Hr1]; · iexact Hr1
    iexact Hr2
  icases Hall with ⟨Hall, Hback⟩
  iapply (wp_load 𝒱₀ (c : Thread nD τ) none Set.univ (m := rM) (Finset.subset_univ _)) $$ Hall; iintro Hall
  rw [read_r]
  iapply (wp_load 𝒱₀ (c : Thread nD τ) none Set.univ (m := oM) (Finset.subset_univ _)) $$ Hout; iintro Hout
  iapply (wp_store 𝒱₀ (c : Thread nD τ) none Set.univ (m := oM) (r := fR) (Mk := Finset.univ) (Finset.subset_univ _)) $$ Hout; iintro Hout
  rw [write_out]
  -- the waits for the three copies to have been read
  iapply (wp_wait_send m K 0 c _ rfl 0 rfl _) $$ [HcS0 HO HaS0]
  · isplitr; · iexact HR
    isplitl [HcS0]; · iexact HcS0
    isplitl [HO]; · iexact HO
    iexact HaS0
  iintro ⟨HO, HaS0, Hs0⟩
  iapply (wp_wait_send m K 1 c _ rfl 0 rfl _) $$ [HcS1 HO HaS1]
  · isplitr; · iexact HR
    isplitl [HcS1]; · iexact HcS1
    isplitl [HO]; · iexact HO
    iexact HaS1
  iintro ⟨HO, HaS1, Hs1⟩
  iapply (wp_wait_send m K 2 c _ rfl 0 rfl _) $$ [HcS2 HO HaS2]
  · isplitr; · iexact HR
    isplitl [HcS2]; · iexact HcS2
    isplitl [HO]; · iexact HO
    iexact HaS2
  iintro ⟨HO, HaS2, Hs2⟩
  ihave Hscr := (gather_full m c) $$ [Hall Hback Hs0 Hs1 Hs2]
  · isplitl [Hall]; · iexact Hall
    isplitl [Hback]; · iexact Hback
    isplitl [Hs0]; · iexact Hs0
    isplitl [Hs1]; · iexact Hs1
    iexact Hs2
  -- the seven cells close
  imod (close_cell m K c none) $$ [HaB] with HzB
  · isplitr; · iexact HR
    iexact HaB
  imod (close_cell m K c (some (false, 0))) $$ [HaS0] with HzS0
  · isplitr; · iexact HR
    iexact HaS0
  imod (close_cell m K c (some (false, 1))) $$ [HaS1] with HzS1
  · isplitr; · iexact HR
    iexact HaS1
  imod (close_cell m K c (some (false, 2))) $$ [HaS2] with HzS2
  · isplitr; · iexact HR
    iexact HaS2
  imod (close_cell m K c (some (true, 0))) $$ [HaR0] with HzR0
  · isplitr; · iexact HR
    iexact HaR0
  imod (close_cell m K c (some (true, 1))) $$ [HaR1] with HzR1
  · isplitr; · iexact HR
    iexact HaR1
  imod (close_cell m K c (some (true, 2))) $$ [HaR2] with HzR2
  · isplitr; · iexact HR
    iexact HaR2
  rw [wp_ret]; imodintro
  iapply Hk
  unfold bodyPost Φ₁ Dat.owesAt Pipeline.owesWithin
  rw [show (dats m 0 c).owed (t0_0 : Fin cfg0.N).succ = 0 from rfl]
  isplitl [Hscr HzB HzS0 HzS1 HzS2 HzR0 HzR1 HzR2]
  · isplitl [Hscr]; · iexact Hscr
    isplitl [HzB]; · iexact HzB
    isplitl [HzS0 HzS1 HzS2]
    · isplitl [HzS0]; · iexact HzS0
      isplitl [HzS1]; · iexact HzS1
      iexact HzS2
    isplitl [HzR0]; · iexact HzR0
    isplitl [HzR1]; · iexact HzR1
    iexact HzR2
  isplitl [HO]
  · iexists _
    isplitr
    rotate_left
    · iexact HO
    · ipureintro; exact fun _ _ => Or.inl trivial
  isplitl [Hx]
  · iexists _; isplitr; · (ipureintro; rfl)
    iexact Hx
  isplitl [Hi]
  · iexists _; isplitr; · (ipureintro; rfl)
    iexact Hi
  isplitl [Hw]
  · iexists _; isplitr; · (ipureintro; rfl)
    iexact Hw
  iexists _; isplitr; · (ipureintro; rfl)
  iexact Hout

/-- The library's body obligation on a core. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  show bodyPre m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_scratch0) (Memref.isWhole_whole _) cc0_scratch1 cc0_scratch2) (fun _ => bodyPost m c)
  iintro H
  iapply (sound_body m c fun _ => bodyPost m c)
  isplitl
  · iexact H
  · iintro H; iexact H

end Body

end Cert.Exchange

end
-- ==== Proof.Exchange.lean ====
/- The launch of the exchange and its run: for any float values, every device ends with `outAt` in its result array, its
   arguments as they were and every semaphore at zero. -/
module

public import proofs.«01_k».proof.Proof.Body
public import Idealize.ShloMosaic.Lib.Pipeline.CollectiveSegs

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens at launch -/

theorem ownSemFacts : Pipeline.OwnSemFacts cfg0.spec osem := by decide

theorem share_eq (c : Dev nD) (w : Fin cfg0.W) : (dats m 0 c).share w = fullShare := by unfold Dat.share; split <;> rfl

theorem kcell_injective : Function.Injective (kcell : Dev nD × Cl → GSem nD τ sig) := fun a b h =>
  Prod.ext (congrArg (fun g : GSem nD τ sig => g.1.1) h) (csem_inj (congrArg Prod.snd h))

def allCells : Finset (GSem nD τ sig) := Finset.univ.map ⟨kcell, kcell_injective⟩

/-- A device's cells' duties: of its barrier, of its sends, of its receives. -/
abbrev tokOf (x : Dev nD × Fin 3 × Fin 3) : GSem nD τ sig × ℕ × Fin 3 := match x.2.1 with
  | 0 => (barCell x.1, 0, x.2.2) | 1 => (sendCell x.2.2 x.1, 0, 0) | 2 => (recvCell x.2.2 x.1, 0, 0)

/-- A token's cell and duty, in a form that can be compared. -/
def codeOf (x : GSem nD τ sig × ℕ × Fin 3) : Option Cl × Fin 3 := (clOf x.1.2, x.2.2)

theorem code_inj (c : Dev nD) : Function.Injective fun t : Fin 3 × Fin 3 => codeOf (tokOf (c, t)) := by
  have h (t : Fin 3 × Fin 3) : codeOf (tokOf (c, t)) = match t.1 with
      | 0 => (some none, t.2) | 1 => (some (some (false, t.2)), 0) | 2 => (some (some (true, t.2)), 0) := by
    obtain ⟨k, j⟩ := t
    fin_cases k
    · show (clOf (barCell c).2, j) = _
      rw [cl_bar]
    · show (clOf (sendCell j c).2, (0 : Fin 3)) = _
      rw [cl_send]
    · show (clOf (recvCell j c).2, (0 : Fin 3)) = _
      rw [cl_recv]
  intro a b hab
  have hab' : codeOf (tokOf (c, a)) = codeOf (tokOf (c, b)) := hab
  rw [h, h] at hab'
  clear hab h
  revert a b
  decide

theorem tokOf_dev (x : Dev nD × Fin 3 × Fin 3) : (tokOf x).1.1.1 = x.1 := by
  obtain ⟨c, k, j⟩ := x
  fin_cases k <;> rfl

theorem tokOf_injective : Function.Injective (tokOf : Dev nD × Fin 3 × Fin 3 → GSem nD τ sig × ℕ × Fin 3) := by
  rintro ⟨c, t⟩ ⟨c', t'⟩ h
  have h1 : c = c' := ((tokOf_dev (c, t)).symm.trans (congrArg (fun x : GSem nD τ sig × ℕ × Fin 3 => x.1.1.1) h)).trans (tokOf_dev (c', t'))
  subst h1
  rw [code_inj c (congrArg codeOf h)]

def allToks : Finset (GSem nD τ sig × ℕ × Fin 3) := Finset.univ.map ⟨tokOf, tokOf_injective⟩

def u₀ : UU :=
  (initOf (Pipeline.cells cfgs cellOf_inj) (Pipeline.launchToks cfgs cellOf_inj), initOf allCells allToks)

/-- The duty tokens of device `c`'s own cells. -/
def toks (c : Dev nD) : sProp 𝕄 :=
  iprop((bigSep Finset.univ fun j => dutyTok ER (barCell c) 0 j) ∗ (bigSep Finset.univ fun j => dutyTok ER (sendCell j c) 0 0)
    ∗ bigSep Finset.univ fun j => dutyTok ER (recvCell j c) 0 0)
/-- The tokens of the duties device `c` pays. -/
def pays (c : Dev nD) : sProp 𝕄 :=
  iprop((bigSep Finset.univ fun j => dutyTok ER (barCell (dn j c)) 0 j) ∗ (bigSep Finset.univ fun j => dutyTok ER (sendCell j c) 0 0)
    ∗ bigSep Finset.univ fun j => dutyTok ER (recvCell j (up j c)) 0 0)

/-- What the launch deals device `c`, -/
def G (c : Dev nD) : sProp 𝕄 :=
  iprop((bigSep Finset.univ fun k : Cl => roundState ER (sched m) (kcell (c, k)) 0)
    ∗ (bigSep Finset.univ fun k : Cl => iprop(atPos ER (kcell (c, k)) 0 ∅ 0 ∗ reached ER (kcell (c, k)) 0)) ∗ toks c)
/-- and what it holds once the invariants are in place and the tokens passed around. -/
def G' (c : Dev nD) : sProp 𝕄 := iprop(∃ K, records m K ∗ linear c)

omit [FloatOps F] in
theorem bigSep_three (Φ : Fin 3 → sProp 𝕄) : bigSep Finset.univ Φ = iprop(Φ 0 ∗ Φ 1 ∗ Φ 2) := bigSep_univ_eq_bigSepL [0, 1, 2] (by decide) (by decide) Φ
omit [FloatOps F] in
theorem bigSep_cl (Φ : Cl → sProp 𝕄) : bigSep Finset.univ Φ
    = iprop(Φ none ∗ Φ (some (false, 0)) ∗ Φ (some (false, 1)) ∗ Φ (some (false, 2)) ∗ Φ (some (true, 0)) ∗ Φ (some (true, 1)) ∗ Φ (some (true, 2))) :=
  bigSep_univ_eq_bigSepL allCl (by decide) (by decide) Φ

theorem fund : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Cl => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_prod, bigSep_three]; rfl
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = iprop(semVal (sendCell 0 c) 0 ∗ semVal (sendCell 1 c) 0 ∗ semVal (sendCell 2 c) 0 ∗ semVal (recvCell 0 c) 0 ∗ semVal (recvCell 1 c) 0 ∗ semVal (recvCell 2 c) 0) := by
  rw [Pipeline.ownSems0_eq_of_list c osem [(false, 0), (false, 1), (false, 2), (true, 0), (true, 1), (true, 2)] (by decide) (by decide)]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- Together they are a device's seven cells at zero. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Cl => semVal (kcell (c, k)) 0 : sProp 𝕄) := by
  rw [ownSems0_eq, unscopedSems0_eq, bigSep_cl]
  iintro ⟨Ho, Hb⟩
  isplitl [Hb] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Cl => semVal (kcell (c, k)) 0) ∗ bigSep Finset.univ fun k : Cl => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- A family of assertions over devices and indices, each index moved around the circle by its own turn. -/
theorem turned (Φ : Fin 3 → Dev nD → sProp 𝕄) (e : Fin 3 → (Dev nD ≃ Dev nD)) :
    (bigSep Finset.univ fun c => bigSep Finset.univ fun j => Φ j c) ⊢ bigSep Finset.univ fun c => bigSep Finset.univ fun j => Φ j (e j c) := by
  simp only [bigSep_three, bigSep_sep']
  rw [bigSep_univ_equiv (e 0) (Φ 0), bigSep_univ_equiv (e 1) (Φ 1), bigSep_univ_equiv (e 2) (Φ 2)]

omit [FloatOps F] in
/-- Each token passed to the device that pays with it. -/
theorem toks_around : (bigSep Finset.univ fun c : Dev nD => (toks c : sProp 𝕄)) ⊢ bigSep Finset.univ fun c : Dev nD => pays c := by
  unfold toks pays
  rw [bigSep_sep', bigSep_sep', bigSep_sep', bigSep_sep']
  iintro ⟨H1, H2, H3⟩
  isplitl [H1]
  · iapply (turned (fun j c => dutyTok ER (barCell c) 0 j) fun j => (turn j).symm); iexact H1
  isplitl [H2]; · iexact H2
  iapply (turned (fun j c => dutyTok ER (recvCell j c) 0 0) turn); iexact H3

omit [FloatOps F] in
theorem linear_intro (c : Dev nD) :
    iprop((bigSep Finset.univ fun k : Cl => (atPos ER (kcell (c, k)) 0 ∅ 0 : sProp 𝕄)) ∗ pays c) ⊢ linear c := by
  unfold pays linear payTok
  rw [bigSep_cl, bigSep_three, bigSep_three, bigSep_three]
  iintro ⟨⟨HB, S0, S1, S2, R0, R1, R2⟩, ⟨B0, B1, B2⟩, ⟨T0, T1, T2⟩, ⟨U0, U1, U2⟩⟩
  isplitl [HB]; · iexact HB
  isplitl [S0 S1 S2]
  · isplitl [S0]; · iexact S0
    isplitl [S1]; · iexact S1
    iexact S2
  isplitl [R0 R1 R2]
  · isplitl [R0]; · iexact R0
    isplitl [R1]; · iexact R1
    iexact R2
  isplitl [B0 T0 U0]
  · isplitl [B0]; · iexact B0
    isplitl [T0]; · iexact T0
    iexact U0
  isplitl [B1 T1 U1]
  · isplitl [B1]; · iexact B1
    isplitl [T1]; · iexact T1
    iexact U1
  isplitl [B2]; · iexact B2
  isplitl [T2]; · iexact T2
  iexact U2

omit [FloatOps F] in
/-- Something held for good may be used at every member of a family. -/
theorem bigSep_using {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Cl => iprop(∃ κ : ℕ, cellInv ER (sched m) κ (kcell ck))),
    bigSep_congr (s := Finset.univ) (fun (c : Dev nD) _ => bigSep_sep' Finset.univ (fun k : Cl => (atPos ER (kcell (c, k)) 0 ∅ 0 : sProp 𝕄)) (fun k => reached ER (kcell (c, k)) 0)),
    bigSep_sep', ← bigSep_univ_prod (fun ck : Dev nD × Cl => (reached ER (kcell ck) 0 : sProp 𝕄))]
  iintro ⟨HI, ⟨Hat, #HR⟩, Htok⟩
  ihave HK := (BI.bigSep_exists_pi Finset.univ (fun (ck : Dev nD × Cl) (κ : ℕ) => (cellInv ER (sched m) κ (kcell ck) : sProp 𝕄))) $$ HI
  icases HK with ⟨%K, #HI⟩
  ihave Htk := (toks_around (F := F)) $$ Htok
  iapply (bigSep_using (R := records m K) (Φ := linear) fun c _ => show iprop(records m K ∗ linear c) ⊢ G' m c by
    unfold G'; iintro H; iexists K; iexact H)
  isplitr
  · unfold records; isplitl; · iexact HI
    iexact HR
  · iapply ((Entails.of_eq (bigSep_sep' Finset.univ (fun c : Dev nD => bigSep Finset.univ fun k : Cl => (atPos ER (kcell (c, k)) 0 ∅ 0 : sProp 𝕄)) pays).symm).trans
      (bigSep_mono fun c _ => linear_intro c))
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits at launch -/

theorem tally_at (a b : Dev nD) (k l : Cl) (n : ℕ) :
    (tallyAt (kcell (a, k)) () n : CellTallies nD τ sig Unit) (kcell (b, l)) () = if a = b ∧ k = l then n else 0 := by
  rw [tallyAt_apply]
  refine if_congr ⟨fun h => ?_, fun h => ⟨by rw [h.1, h.2], rfl⟩⟩ rfl rfl
  have := kcell_injective h.1
  exact ⟨(congrArg Prod.fst this).symm, (congrArg Prod.snd this).symm⟩

/-- What device `d` owes a cell of device `c`. -/
theorem owed (d c : Dev nD) (l : Cl) : O₀ d (kcell (c, l)) () =
    (if up 2 d = c ∧ some (true, 2) = l then N else 0) + (if up 1 d = c ∧ some (true, 1) = l then N else 0) + (if up 0 d = c ∧ some (true, 0) = l then N else 0)
      + (if dn 0 d = c ∧ none = l then 1 else 0) + (if dn 1 d = c ∧ none = l then 1 else 0) + (if dn 2 d = c ∧ none = l then 1 else 0) := by
  unfold O₀ O₁
  rw [Pi.add_apply, Finsupp.add_apply, Pi.add_apply, Finsupp.add_apply, Pi.add_apply, Finsupp.add_apply, Pi.add_apply, Finsupp.add_apply, Pi.add_apply, Finsupp.add_apply]
  exact congrArg₂ (· + ·) (congrArg₂ (· + ·) (congrArg₂ (· + ·) (congrArg₂ (· + ·) (congrArg₂ (· + ·) (tally_at _ _ (some (true, 2)) l N)
    (tally_at _ _ (some (true, 1)) l N)) (tally_at _ _ (some (true, 0)) l N)) (tally_at _ _ none l 1)) (tally_at _ _ none l 1)) (tally_at _ _ none l 1)

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed d c none]
  simp only [reduceCtorEq, and_false, and_true, if_false, Nat.zero_add]
  revert c; decide

theorem launch_recv (j : Fin 3) (c : Dev nD) :
    tallyOn (recvCell j c) (launchCredit (Pipeline.owing O₀) 0 (recvCell j c)) = (tallyAt (recvCell j c) () N : CellTallies nD τ sig Unit) := by
  unfold tallyAt; refine congrArg _ (Finsupp.ext fun u => ?_); cases u
  rw [Pipeline.launchCredit_owing, Finsupp.single_eq_same, Finset.sum_congr rfl fun d _ => owed d c (some (true, j))]
  generalize N = n
  have h : ∀ d, ((if up 2 d = c ∧ some (true, 2) = some (true, j) then n else 0) + (if up 1 d = c ∧ some (true, 1) = some (true, j) then n else 0)
      + (if up 0 d = c ∧ some (true, 0) = some (true, j) then n else 0)
      + (if dn 0 d = c ∧ (none : Cl) = some (true, j) then 1 else 0) + (if dn 1 d = c ∧ (none : Cl) = some (true, j) then 1 else 0)
      + (if dn 2 d = c ∧ (none : Cl) = some (true, j) then 1 else 0) : ℕ) = if d = dn j c then n else 0 := by
    intro d
    have e (i : Fin 3) : Iff (up i d = c) (d = dn i c) := ⟨fun h => by rw [← h, dn_up], fun h => by rw [h, up_dn]⟩
    simp only [e]
    fin_cases j <;> simp
  rw [Finset.sum_congr rfl fun d _ => h d, Finset.sum_ite_eq' Finset.univ (dn j c) fun _ => n, if_pos (Finset.mem_univ _)]

omit [FloatOps F] in
theorem creds (c : Dev nD) :
    (Pipeline.launchCred O₀ c : sProp 𝕄)
      ⊢ iprop(cred (tallyAt (barCell c) () 3) ∗ cred (tallyAt (recvCell 0 c) () N) ∗ cred (tallyAt (recvCell 1 c) () N) ∗ cred (tallyAt (recvCell 2 c) () N)) := by
  unfold Pipeline.launchCred
  rw [bigSep_univ_at _ (csem none), launch_bar]
  refine sep_mono_right ?_
  rw [bigSep_erase (i := csem (some (true, 0))) (Finset.mem_erase.mpr ⟨by decide, Finset.mem_univ _⟩), launch_recv 0]
  refine sep_mono_right ?_
  rw [bigSep_erase (i := csem (some (true, 1))) (Finset.mem_erase.mpr ⟨by decide, Finset.mem_erase.mpr ⟨by decide, Finset.mem_univ _⟩⟩), launch_recv 1]
  refine sep_mono_right ?_
  rw [← launch_recv 2]
  exact bigSep_elim (i := csem (some (true, 2)))
    (Finset.mem_erase.mpr ⟨by decide, Finset.mem_erase.mpr ⟨by decide, Finset.mem_erase.mpr ⟨by decide, Finset.mem_univ _⟩⟩⟩)

/-! ## The side conditions of the launch -/

/-- The one argument the kernel does not stage stays aside. -/
def aside (c : Dev nD) : sProp 𝕄 := ((c : Thread nD τ).loc main_arg1) ↦{fullShare} m ((c : Thread nD τ).loc main_arg1)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ aside m c) := by
  rw [Pipeline.unscopedRestP_none, show Pipeline.unscopedRest cfg0.spec c (fun b => m ((c : Thread nD τ).loc b)) = (aside m c : sProp 𝕄) from unscopedRest0_eq c _]
  iintro ⟨Ha, Hlev, Hcr, -, HG⟩
  ihave Hc := (creds (F := F) c) $$ Hcr
  icases Hc with ⟨HB, H0, H1, H2⟩
  imodintro
  unfold start G'
  isplitr [Ha]
  · isplitl [HG]; · iexact HG
    isplitl [HB]; · iexact HB
    isplitl [H0 H1 H2]
    · isplitl [H0]; · iexact H0
      isplitl [H1]; · iexact H1
      iexact H2
    iexact Hlev
  · iexact Ha

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, show Pipeline.scopedRest cfg0.spec c = _ from scopedRest0_eq c]
  unfold Φ₀
  iintro ⟨Hs, -, Hr⟩
  isplitl [Hs]; · iexact Hs
  iexact Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ m c from rfl, show Pipeline.scopedRest cfg0.spec c = _ from scopedRest0_eq c, ownSems0_eq, unscopedSems0_eq]
  unfold Φ₁
  iintro ⟨Hr, HB, ⟨S0, S1, S2⟩, HR⟩
  isplitl [HB]; · iexact HB
  isplitl [S0 S1 S2 HR]
  · isplitl [S0]; · iexact S0
    isplitl [S1]; · iexact S1
    isplitl [S2]; · iexact S2
    iexact HR
  iexists (commAll m); iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

/-- What is read off a final state beside the staged arrays: the unstaged argument and the barrier semaphore. -/
def sideQ (c : Dev nD) (s : MemSt nD τ sig (Elt F)) : Prop :=
  s.mem ((c : Thread nD τ).loc main_arg1) = m ((c : Thread nD τ).loc main_arg1)
    ∧ ∀ sm : SemLoc sig, sm.isScoped .tc = false → s.sem ((c.tc : Thread nD τ), sm) = 0

theorem side_read (c : Dev nD) (s' : Phys nD τ sig (Elt F)) :
    iprop(unscopedSems0 c ∗ aside m c ∗ SI s') ⊢ (|={Set.univ}=> iprop(⌜sideQ m c s'.mem⌝ ∗ SI s') : sProp 𝕄) := by
  iintro ⟨Hu, Ha, HSI⟩
  ihave H := (pointsTo_read_all {()} (fun _ : Unit => (c : Thread nD τ).loc main_arg1) (fun _ => m ((c : Thread nD τ).loc main_arg1)) s') $$ [Ha HSI]
  · rw [bigSep_singleton]
    isplitl [Ha]; · unfold aside; iexact Ha
    iexact HSI
  icases H with ⟨%h1, HSI⟩
  imod (Pipeline.unscopedSems0_read (X := unscopedSems0 c) (c := c) fupd_intro s') $$ [Hu HSI] with ⟨%h2, HSI⟩
  · isplitl [Hu] <;> iassumption
  imodintro
  isplitr; · ipureintro; exact ⟨h1 () (Finset.mem_singleton_self _), h2⟩
  iexact HSI

/-- What a final state holds. -/
def QC (s : MemSt nD τ sig (Elt F)) : Prop :=
  (∀ c : Dev nD, (∀ w : Fin cfg0.W, s.mem ((cfg0.win w).arr.view.loc (c : Thread nD τ)) = (dats m 0 c).arrAt w cfg0.N)
    ∧ s.mem ((c : Thread nD τ).loc main_arg1) = m ((c : Thread nD τ).loc main_arg1)) ∧ s.sem = fun _ => 0

set_option maxRecDepth 8000 in
/-- On four devices, for any float values and from any memory with zero counters, every weakly fair execution of `main` ends,
    with what `QC` says in the final state. -/
theorem run_main : θ_run defs (onTc (τ := τ) (main (F := F))) ⟨m, fun _ => 0, ρ⟩ (fun r => QC m r.2) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := aside m)
    (hX := start_intro m ρ) (hin := phi0_intro m) (hout := phi1_exit m)
    (QY := sideQ m) (hY := side_read m)
    (hQ := fun _ h hs => ⟨fun c => ⟨(h c).1, (h c).2.2.1⟩, sem_eq_zero hs fun c => (h c).2.2.2⟩)

end Cert.Exchange

end
-- ==== Proof.Frames.lean ====
/- The arrays at the end of the run, and the frame claims. -/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Exchange
public import Idealize.ShloMosaic.Lib.Pipeline.Value

@[expose] public section

noncomputable section

namespace Cert.Exchange

open Cert.KernelIdeal Cert.KernelIdeal.Gen
open Idealize.ShloMosaic
open Idealize.ShloMosaic.TcCoe
open Idealize.SL Idealize.SL.Sem
open Idealize.ShloMosaic.Pipeline (Dat Cfg Window)

section
variable {F : FTy → Type} [FloatOps F]

/-- The result array's one block is the whole array, so it ends holding what the body wrote out. -/
theorem result_eq (m : (ℓ : Loc nD τ sig) → Buf (Elt F) ℓ) (c : Dev nD) : (dats m 0 c).arrAt (3 : Fin 4) cfg0.N = outAt m c := by
  have hz : (fun a => (win0_3.index (0 : Fin 1)) a * main_v1.ty.shape.size a) = fun _ => 0 :=
    funext fun a => by fin_cases a <;> decide
  have hr := fun f => Memref.read_access_unit_zero (Elt F) main_v1 hz (fun a => by fin_cases a <;> decide) f
  have ho : (win0_3.blk (0 : Fin 1)).view.read (Elt F) ((dats m 0 c).arrAt (3 : Fin 4) cfg0.N) = outAt m c := by
    rw [show cfg0.N = ((0 : Fin 1) : Fin cfg0.N).val + 1 from rfl, (dats m 0 c).arrAt_succ (3 : Fin 4) (0 : Fin 1)]
    rw [show (cfg0.win (3 : Fin 4)).flush (0 : Fin 1) = true from by decide, if_pos rfl]
    exact View.read_write_univ _ _
  exact (hr _).symm.trans ho

/-- The launch's arrays as staged are the argument arrays themselves. -/
theorem xstg_eq (m : (ℓ : Loc nD τ sig) → Buf (Elt F) ℓ) (c : Dev nD) : xstg m c = m ((c : Thread nD τ).loc main_arg0) :=
  Memref.read_access_unit_zero (Elt F) main_arg0 (funext fun a => by fin_cases a <;> decide) (fun a => by fin_cases a <;> decide) _
theorem istg_eq (m : (ℓ : Loc nD τ sig) → Buf (Elt F) ℓ) (c : Dev nD) : istg m c = m ((c : Thread nD τ).loc main_arg2) :=
  Memref.read_access_unit_zero (Elt F) main_arg2 (funext fun a => by fin_cases a <;> decide) (fun a => by fin_cases a <;> decide) _
theorem wstg_eq (m : (ℓ : Loc nD τ sig) → Buf (Elt F) ℓ) (c : Dev nD) : wstg m c = m ((c : Thread nD τ).loc main_arg3) :=
  Memref.read_access_unit_zero (Elt F) main_arg3 (funext fun a => by fin_cases a <;> decide) (fun a => by fin_cases a <;> decide) _

/-- From any memory with zero counters every run ends with each device's result array at `outAt`, the four
    argument arrays as they were and every counter at zero. -/
theorem run_values (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v1) = outAt m c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0 :=
  (θ_run defs _ _).mono (fun _ h => ⟨fun c =>
      ⟨((h.1 c).1 (3 : Fin 4)).trans (result_eq m c),
        ((h.1 c).1 (0 : Fin 4)).trans ((dats m 0 c).arrAt_in (0 : Fin 4) rfl _),
        (h.1 c).2,
        ((h.1 c).1 (1 : Fin 4)).trans ((dats m 0 c).arrAt_in (1 : Fin 4) rfl _),
        ((h.1 c).1 (2 : Fin 4)).trans ((dats m 0 c).arrAt_in (2 : Fin 4) rfl _)⟩, h.2⟩)
    (run_main m ρ)

/-- The same without the result array. -/
theorem run_args (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0 :=
  (θ_run defs _ _).mono (fun _ h => ⟨fun c => (h.1 c).2, h.2⟩) (run_values m ρ)

end

/-! ## The side conditions of the printed preconditions -/

/-- The shapes the kernel's precondition names are as it states. -/
theorem facts_pre_kernel : Cert.Pre_experts_in_range_KernelIdeal.Facts where
  bcast_S_S512x1 := by decide
  reducesTo_S512x1_S_d0_1 := by decide
  h_S_ := by decide
/-- The shapes the reference's precondition names are as it states. -/
theorem facts_pre_reference : Cert.Pre_experts_in_range_ReferenceIdeal.Facts where
  bcast_S_S512x1 := by decide
  reducesTo_S512x1_S_d0_1 := by decide
  h_S_ := by decide

/-! ## The frame claims -/

/-- The two printed programs have the same bodies -/
theorem defs₀_eq : Cert.Kernel.defs₀ (F := Bits) = Cert.KernelIdeal.defs₀ (F := Bits) := by
  unfold Cert.Kernel.defs₀ Cert.KernelIdeal.defs₀
  refine congrArg Defs.onTc ?_
  funext l a
  match l, a with
  | ⟨0, _⟩, (t, s) => rfl
  | ⟨_ + 1, h⟩, _ => exact absurd h (Nat.not_lt.2 (Nat.le_add_left _ _))
/-- and so the same tables. -/
theorem defs_eq : Cert.Kernel.defs (F := Bits) = Cert.KernelIdeal.defs (F := Bits) :=
  congrArg (Pipeline.defs Cert.KernelIdeal.pcfgs) defs₀_eq

/-- The printed kernel runs, leaves its arguments and ends with every counter at zero. -/
theorem frame_kernel : Cert.quiescent_Kernel := fun m ρ _ => by
  rw [defs_eq]
  exact (θ_run Cert.KernelIdeal.defs _ _).mono (fun _ h => h) (run_args (F := Bits) m ρ)

/-- So does the kernel over the extended reals, -/
theorem frame_ideal : Cert.quiescent_KernelIdeal := fun m ρ _ => run_args (F := Ideal) m ρ

/-- and so under the precondition. -/
theorem frame_ideal_pre : @Cert.quiescent_KernelIdeal_pre_experts_in_range_KernelIdeal Cert.KernelIdeal.Gen.facts facts_pre_kernel :=
  fun m ρ _ => run_args (F := Ideal) m ρ

/-- The reference leaves its arguments, and has no counter to leave. -/
theorem run_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m ρ)

theorem frame_reference : Cert.quiescent_ReferenceIdeal := fun m ρ _ => run_reference m ρ

theorem frame_reference_pre :
    @Cert.quiescent_ReferenceIdeal_pre_experts_in_range_ReferenceIdeal Cert.ReferenceIdeal.Gen.facts facts_pre_reference :=
  fun m ρ _ => run_reference m ρ

end Cert.Exchange

end
-- ==== Proof.Reads.lean ====
/- What the kernel's three computations hold at an index, over the extended reals: each token's row of the gathered
   buffer, the block of rows a device computes, and the final pick of rows. -/
module

public import proofs.«01_k».proof.Proof.Count
public import proofs.«01_k».proof.Proof.Frames
public import Idealize.ShloMosaic.Lib.Pointwise
public import Idealize.ShloMosaic.Lib.IdealHost
public import Idealize.ShloMosaic.Lib.IndicatorCount
public import Idealize.ShloMosaic.Lib.WordCmp

@[expose] public section

noncomputable section

namespace Cert.Routing

open Cert.KernelIdeal Cert.KernelIdeal.Gen
open Idealize.ShloMosaic
open Idealize.ShloMosaic.TcCoe

/-! ## Bits and words -/

/-- A bit widened to a word and read as a number is `1` or `0`. -/
theorem bit_num (b : BitVec 1) : (FloatOps.sitofp FTy.f32 (BitVec.setWidth 32 b) : Ideal .f32) = if b = 1#1 then (1 : EReal) else 0 := by
  show ((((BitVec.setWidth 32 b).toInt : ℤ) : ℝ) : EReal) = _
  rcases (by decide : ∀ b : BitVec 1, b = 0#1 ∨ b = 1#1) b with rfl | rfl
  · rw [if_neg (by decide), show (BitVec.setWidth 32 0#1).toInt = 0 by decide]; simp
  · rw [if_pos rfl, show (BitVec.setWidth 32 1#1).toInt = 1 by decide]; simp

/-- Comparing words for equality. -/
theorem eq_bit (x y : BitVec 32) : IntOp.cmpi .eq x y = 1#1 ↔ x = y := by
  rw [WordCmp.cmpi_eq_eq]
  by_cases h : x = y <;> simp [h]

/-- Small numbers as words are equal only if they are equal. -/
theorem word_inj {a b : ℕ} (ha : a < 2 ^ 31) (hb : b < 2 ^ 31) : BitVec.ofNat 32 a = BitVec.ofNat 32 b ↔ a = b := by
  constructor
  · intro h
    have := congrArg BitVec.toNat h
    rw [BitVec.toNat_ofNat, BitVec.toNat_ofNat] at this
    omega
  · rintro rfl; rfl

/-- The word `-1` is no small number. -/
theorem neg_word {a : ℕ} (ha : a < 2 ^ 31) : ¬ (4294967295#32 = BitVec.ofNat 32 a) := fun h => by
  have := congrArg BitVec.toNat h
  rw [BitVec.toNat_ofNat, BitVec.toNat_ofNat] at this
  omega

/-- Comparing small numbers as words. -/
theorem sle_bit {a b : ℕ} (ha : a < 2 ^ 31) (hb : b < 2 ^ 31) :
    IntOp.cmpi .sle (BitVec.ofNat 32 a) (BitVec.ofNat 32 b) = 1#1 ↔ a ≤ b :=
  WordCmp.cmpi_sle_ofNat_eq_one_iff ha hb

theorem slt_bit {a b : ℕ} (ha : a < 2 ^ 31) (hb : b < 2 ^ 31) :
    IntOp.cmpi .slt (BitVec.ofNat 32 a) (BitVec.ofNat 32 b) = 1#1 ↔ a < b :=
  WordCmp.cmpi_slt_ofNat_eq_one_iff ha hb

/-- A small count turned into a word. -/
theorem count_word {k : ℕ} (hk : k < 2 ^ 31) : FloatOps.fptosi (F := Ideal) (φ := .f32) 32 ((k : ℝ) : EReal) = BitVec.ofNat 32 k := by
  show BitVec.ofInt 32 (Ideal.toIntClamped _ _ ((k : ℝ) : EReal)) = _
  rw [Ideal.toIntClamped_coe, if_pos (Nat.cast_nonneg k), Int.floor_natCast]
  have : max (-((2 ^ (32 - 1) : ℕ) : ℤ)) (min (((2 ^ (32 - 1) : ℕ) : ℤ) - 1) (k : ℤ)) = (k : ℤ) := by
    norm_num at hk ⊢
    omega
  rw [this, BitVec.ofInt_natCast]

/-! ## Each token's row -/

variable (e : Fin 512 → ℕ)

/-- The row of the gathered buffer a token's product is computed at: 32 rows per expert, a token at the place its
    count of earlier tokens gives, none for the 26th of an expert and later ones. -/
def rowWord (i : Fin 512) : BitVec 32 := if before e i < 25 then BitVec.ofNat 32 (32 * e i + before e i) else 4294967295#32

/-- The kernel's row of a token. -/
theorem pay1_apply (he : ∀ i, e i < 16) (idx : IVec S512x1 32) (hidx : ∀ i, idx (ix2 i 0) = BitVec.ofNat 32 (e i)) (i : Fin 512) :
    k0_pay1 (F := Ideal) idx (ix2 i 0) = rowWord e i := by
  unfold_payloads
  pointwise
  have hs : (∑ x : Fin 16, (∑ j : Fin 512,
        (FloatOps.sitofp FTy.f32 (BitVec.setWidth 32 (IntOp.cmpi CmpIPredicate.sle (BitVec.ofNat 32 ↑j) (BitVec.ofNat 32 ↑i))) : Ideal .f32) *
          FloatOps.sitofp FTy.f32 (BitVec.setWidth 32 (IntOp.cmpi CmpIPredicate.eq (idx (ix2 j 0)) (BitVec.ofNat 32 ↑x)))) *
        FloatOps.sitofp FTy.f32 (BitVec.setWidth 32 (IntOp.cmpi CmpIPredicate.eq (idx (ix2 i 0)) (BitVec.ofNat 32 ↑x))))
      = (((before e i + 1 : ℕ) : ℝ) : EReal) := by
    rw [← card_upTo]
    have h1 : ∀ j x, (FloatOps.sitofp FTy.f32 (BitVec.setWidth 32 (IntOp.cmpi CmpIPredicate.eq (idx (ix2 j 0)) (BitVec.ofNat 32 ↑(x : Fin 16)))) : Ideal .f32)
        = if e j = x then (1 : EReal) else 0 := fun j x => by
      rw [bit_num]
      refine if_congr ?_ rfl rfl
      rw [eq_bit, hidx, word_inj (by have := he j; omega) (by have := x.isLt; omega)]
    have h2 : ∀ j : Fin 512, (FloatOps.sitofp FTy.f32 (BitVec.setWidth 32 (IntOp.cmpi CmpIPredicate.sle (BitVec.ofNat 32 ↑j) (BitVec.ofNat 32 ↑i))) : Ideal .f32)
        = if j ≤ i then (1 : EReal) else 0 := fun j => by
      rw [bit_num]
      refine if_congr ?_ rfl rfl
      rw [sle_bit (by have := j.isLt; omega) (by have := i.isLt; omega)]
      rfl
    simp only [h1, h2, sum_both]
    rw [show (∑ x : Fin 16, ((((Finset.univ.filter fun j => e j = x ∧ j ≤ i).card : ℝ) : EReal)) * (if e i = x then (1 : EReal) else 0))
        = ∑ x : Fin 16, (if e i = x then (1 : EReal) else 0) * (((Finset.univ.filter fun j => e j = x ∧ j ≤ i).card : ℝ) : EReal) from
      Finset.sum_congr rfl fun x _ => mul_comm _ _]
    rw [sum_pick (⟨e i, he i⟩ : Fin 16) (fun x : Fin 16 => e i = x) (fun x => ⟨fun h => Fin.ext h.symm, fun h => by rw [h]⟩)]
  have hb := before_lt e i
  rw [hs, count_word (by omega), hidx]
  unfold rowWord
  show (if IntOp.cmpi .sle (BitVec.ofNat 32 (before e i + 1)) (BitVec.ofNat 32 25) = 1#1 then _ else _) = _
  refine if_congr ?_ ?_ rfl
  · rw [sle_bit (by omega) (by omega)]; omega
  · show BitVec.ofNat 32 (e i) * 32#32 + BitVec.ofNat 32 (before e i + 1) - 1#32 = _
    have := he i
    apply BitVec.eq_of_toNat_eq
    simp only [BitVec.toNat_sub, BitVec.toNat_add, BitVec.toNat_mul, BitVec.toNat_ofNat]
    omega

/-- A token's row is the given one exactly when it has one and it is that. -/
theorem rowWord_eq (he : ∀ i, e i < 16) (i : Fin 512) (r : ℕ) (hr : r < 512) :
    rowWord e i = BitVec.ofNat 32 r ↔ before e i < 25 ∧ 32 * e i + before e i = r := by
  have := he i
  have := before_lt e i
  unfold rowWord
  split
  · next h => rw [word_inj (by omega) (by omega)]; exact ⟨fun a => ⟨h, a⟩, fun a => a.2⟩
  · next h => exact ⟨fun a => absurd a (neg_word (by omega)), fun a => absurd a.1 h⟩

/-- Tokens that have a row have different ones. -/
theorem row_inj {i j : Fin 512} (hi : before e i < 25) (hj : before e j < 25)
    (h : 32 * e i + before e i = 32 * e j + before e j) : i = j :=
  before_inj e (by omega) (by omega)

/-! ## The final pick and the blocks -/

/-- The indicator of a token's row. -/
theorem pay2_apply (he : ∀ i, e i < 16) (rid : IVec S512x1 32) (hrid : ∀ i, rid (ix2 i 0) = rowWord e i) (i r : Fin 512) :
    k0_pay2 (F := Ideal) rid (iota .tc S512x512 32 [1] iota_S512x512_d1_w32) (ix2 i r)
      = if before e i < 25 ∧ 32 * e i + before e i = r then (1 : EReal) else 0 := by
  unfold_payloads
  pointwise
  rw [bit_num]
  refine if_congr ?_ rfl rfl
  rw [eq_bit, hrid, rowWord_eq e he i r r.isLt]

/-- The last product is a sum over the gathered rows. -/
theorem pay5_apply (p y : FVec Ideal S512x512 .bf16) (i c : Fin 512) :
    k0_pay5 (F := Ideal) p y (ix2 i c) = ∑ r : Fin 512, p (ix2 i r) * y (ix2 r c) := by
  unfold_payloads
  pointwise

/-- A device's rows of the gathered tokens: at a row that is token `i`'s, token `i`. -/
theorem gathered (he : ∀ i, e i < 16) (rid : IVec S512x1 32) (hrid : ∀ i, rid (ix2 i 0) = rowWord e i)
    (x : FVec Ideal S512x256 .bf16) (w : BitVec 32) (d : ℕ) (hd : d < 4) (hw : w = BitVec.ofNat 32 d) (q : ℕ) (hq : q < 128)
    (i : Fin 512) (hi : before e i < 25) (hrow : 32 * e i + before e i = 128 * d + q) (k : Fin 256) :
    (∑ j : Fin 512, (FloatOps.sitofp FTy.f32 (BitVec.setWidth 32
      (IntOp.cmpi CmpIPredicate.eq (rid (ix2 j 0)) (IntOp.addi (Scalar.muli w 128#32) (BitVec.ofNat 32 q)))) : Ideal .f32) * x (ix2 j k))
      = x (ix2 i k) := by
  have hword : IntOp.addi (Scalar.muli w 128#32) (BitVec.ofNat 32 q) = BitVec.ofNat 32 (128 * d + q) := by
    subst hw
    show BitVec.ofNat 32 d * 128#32 + BitVec.ofNat 32 q = _
    apply BitVec.eq_of_toNat_eq
    simp only [BitVec.toNat_add, BitVec.toNat_mul, BitVec.toNat_ofNat]
    omega
  simp only [bit_num, hword, eq_bit, hrid]
  refine sum_pick i _ (fun j => ?_) fun j => x (ix2 j k)
  rw [rowWord_eq e he j _ (by omega)]
  constructor
  · rintro ⟨h1, h2⟩
    exact row_inj e h1 hi (h2.trans hrow.symm)
  · rintro rfl
    exact ⟨hi, hrow⟩

/-- The block of rows device `d` computes, at the row of token `i` sent to the device's expert `l`: that token's
    product with that expert's matrix. -/
theorem block_apply (he : ∀ i, e i < 16) (rid : IVec S512x1 32) (hrid : ∀ i, rid (ix2 i 0) = rowWord e i)
    (x : FVec Ideal S512x256 .bf16) (w0 w1 w2 w3 : FVec Ideal S1x256x512 .bf16)
    (w : BitVec 32) (d : ℕ) (hd : d < 4) (hw : w = BitVec.ofNat 32 d) (q : Fin 128)
    (i : Fin 512) (hi : before e i < 25) (hrow : 32 * e i + before e i = 128 * d + q) (c : Fin 512) :
    k0_pay4 (F := Ideal) (k0_pay3 (F := Ideal) w rid x w0 w1 w2 w3) (ix2 q c)
      = ∑ k : Fin 256, x (ix2 i k) *
          (if e i % 4 = 0 then w0 (ix3 0 k c) else if e i % 4 = 1 then w1 (ix3 0 k c) else if e i % 4 = 2 then w2 (ix3 0 k c) else w3 (ix3 0 k c)) := by
  unfold_payloads
  pointwise
  have hq := q.isLt
  split
  · refine Finset.sum_congr rfl fun k _ => ?_
    rw [gathered e he rid hrid x w d hd hw _ (by omega) i hi (by omega), if_pos (by omega)]
  · split
    · refine Finset.sum_congr rfl fun k _ => ?_
      rw [gathered e he rid hrid x w d hd hw _ (by omega) i hi (by omega), if_neg (by omega), if_pos (by omega)]
    · split
      · refine Finset.sum_congr rfl fun k _ => ?_
        rw [gathered e he rid hrid x w d hd hw _ (by omega) i hi (by omega), if_neg (by omega), if_neg (by omega), if_pos (by omega)]
      · refine Finset.sum_congr rfl fun k _ => ?_
        rw [gathered e he rid hrid x w d hd hw _ (by omega) i hi (by omega), if_neg (by omega), if_neg (by omega), if_neg (by omega)]

end Cert.Routing
-- ==== Proof.Reference.lean ====
/- What the reference computes at an index, over the extended reals. -/
module

public import proofs.«01_k».proof.Proof.Reads

@[expose] public section

noncomputable section

namespace Cert.Routing

open Cert.ReferenceIdeal Cert.ReferenceIdeal.Gen
open Idealize.ShloMosaic
open Idealize.ShloMosaic.TcCoe
open Idealize.SL Idealize.SL.Sem

/-- The reference's result as a function of its tokens, expert indices and matrices. -/
def refOut (x : FVec Ideal S512x256 .bf16) (t : IVec S512x1 32) (w : FVec Ideal S16x256x512 .bf16) : FVec Ideal S512x512 .bf16 :=
  truncf .bf16 (select (broadcastInDim S512x512 ![0, 1] bcast_S512x1_S512x512_0_1 (broadcastInDim S512x1 ![0] bcast_S512_S512x1_0 (cmpi .slt (Host.reduce IntOp.addi (extui 32 (andi (cmpi .eq (broadcastInDim S512x512 ![0, 1] bcast_S1x512_S512x512_0_1 (broadcastInDim S1x512 ![1] bcast_S512_S1x512_1 (shapeCast _ t shapeCasts_S512x1_S512))) (broadcastInDim S512x512 ![0, 1] bcast_S512x1_S512x512_0_1 (broadcastInDim S512x1 ![0] bcast_S512_S512x1_0 (shapeCast _ t shapeCasts_S512x1_S512)))) (cmpi .slt (broadcastInDim S512x512 ![0, 1] bcast_S1x512_S512x512_0_1 (broadcastInDim S1x512 ![1] bcast_S512_S1x512_1 (iotaInDim S512 32 0))) (broadcastInDim S512x512 ![0, 1] bcast_S512x1_S512x512_0_1 (broadcastInDim S512x1 ![0] bcast_S512_S512x1_0 (iotaInDim S512 32 0))))) natLt_1_32) (constantI S_ 32 0#32) reducesTo_S512x512_S512_d1 h_S_) (broadcastInDim S512 ![] bcast_S_S512 (constantI S_ 32 25#32))))) (Host.dotGeneral dot_S512x256_S512x256x512_S512x512_1_1_n_2_0_0 none (extf .f32 x bitsLt_bf16_f32) (Host.gather gather_S16x256x512_S512x1_S512x256x512_12_0_n_n_0_1_1256512 (extf .f32 w bitsLt_bf16_f32) (broadcastInDim S512x1 ![0] bcast_S512_S512x1_0 (shapeCast _ t shapeCasts_S512x1_S512)))) (broadcastInDim S512x512 ![] bcast_S_S512x512 (id (constant S_ .f32 0x00000000#32)))) bitsLt_bf16_f32

/-- The gather at an index: the matrix the token's index names, held to the last one. -/
theorem gather_apply (w : FVec Ideal S16x256x512 .f32) (idx : IVec S512x1 32) (i : Fin 512) (k : Fin 256) (c : Fin 512) :
    Host.gather gather_S16x256x512_S512x1_S512x256x512_12_0_n_n_0_1_1256512 w idx (ix3 i k c)
      = w (ix3 ⟨min (idx (ix2 i 0)).toInt.toNat 15, by omega⟩ k c) := by
  unfold Host.gather
  congr 1
  let D := gather_S16x256x512_S512x1_S512x256x512_12_0_n_n_0_1_1256512
  funext a
  refine Fin.ext ?_
  show D.start (ix3 i k c) idx a + D.batchCoord (ix3 i k c) a + D.offCoord (ix3 i k c) a = _
  rw [GatherDims.batchCoord_eq_zero _ _ _ List.not_mem_nil]
  match a with
  | ⟨0, _⟩ =>
    have ho : D.offCoord (ix3 i k c) ⟨0, by decide⟩ = 0 := dif_neg (show ¬ (⟨0, by decide⟩ : Fin 3) ∈ ([1, 2] : List (Fin 3)) by decide)
    have hm : (⟨0, by decide⟩ : Fin 3) ∈ D.startIndexMap := List.mem_singleton.mpr rfl
    have hs : D.start (ix3 i k c) idx ⟨0, by decide⟩ = min (idx (ix2 i 0)).toInt.toNat 15 := by
      refine (dif_pos hm).trans (congrArg (fun j => min (idx j).toInt.toNat 15) (?_ : _ = ix2 i 0))
      funext b
      fin_cases b <;> rfl
    rw [hs, ho]
    exact Nat.add_zero _
  | ⟨1, _⟩ =>
    have hs : D.start (ix3 i k c) idx ⟨1, by decide⟩ = 0 := dif_neg (show ¬ (⟨1, by decide⟩ : Fin 3) ∈ ([0] : List (Fin 3)) by decide)
    have ho : D.offCoord (ix3 i k c) ⟨1, by decide⟩ = (ix3 i k c ⟨1, by decide⟩).val :=
      dif_pos (show (⟨1, by decide⟩ : Fin 3) ∈ ([1, 2] : List (Fin 3)) by decide)
    rw [hs, ho]
    exact Nat.zero_add _
  | ⟨2, _⟩ =>
    have hs : D.start (ix3 i k c) idx ⟨2, by decide⟩ = 0 := dif_neg (show ¬ (⟨2, by decide⟩ : Fin 3) ∈ ([0] : List (Fin 3)) by decide)
    have ho : D.offCoord (ix3 i k c) ⟨2, by decide⟩ = (ix3 i k c ⟨2, by decide⟩).val :=
      dif_pos (show (⟨2, by decide⟩ : Fin 3) ∈ ([1, 2] : List (Fin 3)) by decide)
    rw [hs, ho]
    exact Nat.zero_add _

/-- The product of token `i` with its expert's matrix, if fewer than 25 tokens before it go to that expert, and zero
    otherwise. -/
theorem refOut_apply (e : Fin 512 → ℕ) (he : ∀ i, e i < 16) (x : FVec Ideal S512x256 .bf16) (t : IVec S512x1 32)
    (ht : ∀ i, t (ix2 i 0) = BitVec.ofNat 32 (e i)) (w : FVec Ideal S16x256x512 .bf16) (i c : Fin 512) :
    refOut x t w (ix2 i c) = if before e i < 25 then ∑ k : Fin 256, x (ix2 i k) * w (ix3 ⟨e i, he i⟩ k c) else 0 := by
  unfold refOut
  pointwise
  have hc : Finset.fold IntOp.addi (0#32)
          (fun j : Fin 512 =>
            BitVec.setWidth 32
              (IntOp.andi (IntOp.cmpi CmpIPredicate.eq (t (ix2 j 0)) (t (ix2 i 0)))
                (IntOp.cmpi CmpIPredicate.slt (BitVec.ofNat 32 ↑j) (BitVec.ofNat 32 ↑i))))
          Finset.univ = BitVec.ofNat 32 (before e i) := by
    rw [IndicatorCount.fold_addi_setWidth_eq_card]
    unfold before
    congr 3
    ext j
    have hand : ∀ a b : BitVec 1, IntOp.andi a b = 1#1 ↔ a = 1#1 ∧ b = 1#1 := by decide
    rw [hand, eq_bit, ht, ht, word_inj (by have := he j; omega) (by have := he i; omega),
      slt_bit (by have := j.isLt; omega) (by have := i.isLt; omega)]
    rfl
  have hb := before_lt e i
  rw [hc]
  show (if IntOp.cmpi .slt (BitVec.ofNat 32 (before e i)) (BitVec.ofNat 32 25) = 1#1 then _ else _) = _
  refine if_congr (slt_bit (by omega) (by omega)) (Finset.sum_congr rfl fun k _ => ?_) ?_
  · rw [gather_apply]
    congr 1
    have hi : broadcastInDim S512x1 ![0] bcast_S512_S512x1_0 (shapeCast S512 t shapeCasts_S512x1_S512) (ix2 i 0) = BitVec.ofNat 32 (e i) := by
      pointwise
      exact ht i
    show w _ = w _
    congr 2
    refine Fin.ext ?_
    show min (broadcastInDim S512x1 ![0] bcast_S512_S512x1_0 (shapeCast S512 t shapeCasts_S512x1_S512) (ix2 i 0)).toInt.toNat 15 = e i
    rw [hi]
    have := he i
    rw [BitVec.toInt_eq_toNat_of_lt (by rw [BitVec.toNat_ofNat]; omega), BitVec.toNat_ofNat]
    omega
  · exact Ideal.ofBits_zero_f32

/-- Every run of the reference ends with its result array at `refOut` of its arguments, which stay as they were. -/
theorem refOut_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v23)
          = refOut (m ((c.tc : Thread Cert.ReferenceIdeal.nD Cert.ReferenceIdeal.τ).loc Cert.ReferenceIdeal.main_arg0))
            (m ((c.tc : Thread Cert.ReferenceIdeal.nD Cert.ReferenceIdeal.τ).loc Cert.ReferenceIdeal.main_arg2))
            (m ((c.tc : Thread Cert.ReferenceIdeal.nD Cert.ReferenceIdeal.τ).loc Cert.ReferenceIdeal.main_arg3))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)) :=
  Cert.ReferenceIdeal.Value.run (F := Ideal) m ρ

end Cert.Routing
-- ==== Proof.Value.lean ====
/- The kernel's result is the reference's, when every token's expert is one of the sixteen. -/
module

public import proofs.«01_k».proof.Proof.Reference
public import Idealize.ShloMosaic.Lib.ReduceAll

@[expose] public section

noncomputable section

namespace Cert.Routing

open Cert.KernelIdeal Cert.KernelIdeal.Gen Cert.Exchange
open Idealize.ShloMosaic
open Idealize.ShloMosaic.TcCoe
open Idealize.SL Idealize.SL.Sem

/-- The shape of all sixteen matrices, of which each device holds four. -/
abbrev SAll : Shape := ⟨3, ![16, 256, 512]⟩

/-- The word of a device's position is its number. -/
theorem posWord_eq (d : Dev nD) : posWord d = BitVec.ofNat 32 d.val := by revert d; decide

/-- Four matrices of device `d` are the sixteen at `4 d` and after. -/
theorem shard_apply (W : SAll.Idx → EReal) (d : Dev nD) (l : Fin 4) (k : Fin 256) (c : Fin 512) :
    Layout.block S4x256x512 SAll 0 4 d W (by decide) (ix3 l k c) = W (ix3 ⟨4 * d.val + l.val, by have := d.isLt; have := l.isLt; simp only [nD] at *; omega⟩ k c) := by
  rw [Layout.block_apply]
  congr 1
  funext a
  refine Fin.ext ?_
  rw [Layout.Tiles.idx_val]
  fin_cases a
  · show d.val * 4 + l.val = 4 * d.val + l.val
    omega
  · rfl
  · rfl

/-- The matrix at `o` of the four, as loaded. -/
theorem load_apply (f : (cc0_stg2_0 : Ref sig .tc).ty.Contents (Elt Ideal)) (l : Fin 4)
    (inb : ∀ a, (![l.val, 0, 0] : Fin 3 → ℕ) a + S1x256x512.size a ≤ S4x256x512.size a)
    (k : Fin 256) (c : Fin 512) :
    wM.view.readAt (Elt Ideal) (Rect.unit (s := S4x256x512) ![l.val, 0, 0] S1x256x512.size inb).toLoadRect f (ix3 0 k c) = f (ix3 l k c) := by
  rw [View.readAt_apply]
  show f _ = f _
  congr 1
  funext a
  refine Fin.ext ?_
  fin_cases a
  · show l.val + 1 * 0 = l.val
    omega
  · show 0 + 1 * k.val = k.val
    omega
  · show 0 + 1 * c.val = c.val
    omega

/-- The result of a device whose arrays are the given tokens, expert indices and its share of the matrices, on all
    devices alike, is the reference's. -/
theorem out_eq (m : (ℓ : Loc nD τ sig) → Buf (Elt Ideal) ℓ) (e : Fin 512 → ℕ) (he : ∀ i, e i < 16)
    (x : FVec Ideal S512x256 .bf16) (t : IVec S512x1 32) (W : SAll.Idx → EReal)
    (ht : ∀ i, t (ix2 i 0) = BitVec.ofNat 32 (e i))
    (hx : ∀ d : Dev nD, m ((d : Thread nD τ).loc main_arg0) = x)
    (hi : ∀ d : Dev nD, m ((d : Thread nD τ).loc main_arg2) = t)
    (hW : ∀ d : Dev nD, m ((d : Thread nD τ).loc main_arg3) = Layout.block S4x256x512 SAll 0 4 d W (by decide))
    (d : Dev nD) : outAt m d = refOut x t W := by
  have hr : ∀ (b : Dev nD) i, rowIds m b (ix2 i 0) = rowWord e i := fun b i => by
    unfold rowIds
    rw [istg_eq, hi]
    exact pay1_apply e he t ht i
  funext j
  obtain ⟨i, c, rfl⟩ : ∃ (i c : Fin 512), j = ix2 i c := ⟨j 0, j 1, ValueIdx.eq_ix2 j⟩
  rw [refOut_apply e he x t ht]
  have hsum : outAt m d (ix2 i c) = ∑ r : Fin 512, (if before e i < 25 ∧ 32 * e i + before e i = r.val then (1 : EReal) else 0) * (commAll m (ix2 r c) : EReal) := by
    refine (pay5_apply _ _ i c).trans (Finset.sum_congr rfl fun r _ => ?_)
    rw [pay2_apply e he _ (hr d)]
  refine hsum.trans ?_
  have hb := before_lt e i
  have hei := he i
  split
  · next hk =>
    refine (sum_pick (⟨32 * e i + before e i, by omega⟩ : Fin 512) (fun r : Fin 512 => before e i < 25 ∧ 32 * e i + before e i = r.val)
      (fun r => ⟨fun h => Fin.ext h.2.symm, fun h => ⟨hk, by rw [h]⟩⟩) fun r => (commAll m (ix2 r c) : EReal)).trans ?_
    have hrow : devOf (ix2 (⟨32 * e i + before e i, by omega⟩ : Fin 512) c) = (⟨e i / 4, by show _ < 4; omega⟩ : Dev nD) := by
      refine Fin.ext ?_
      show (32 * e i + before e i) / 128 = e i / 4
      omega
    have hin : inBlk (ix2 (⟨32 * e i + before e i, by omega⟩ : Fin 512) c)
        = ix2 (⟨(32 * e i + before e i) % 128, Nat.mod_lt _ (by decide)⟩ : Fin 128) c := by
      funext a
      fin_cases a <;> rfl
    unfold commAll
    rw [hrow, hin]
    unfold blkVal
    rw [block_apply e he _ (hr _) _ _ _ _ _ _ (e i / 4) (by omega) (posWord_eq _) _ i hk (by
      show 32 * e i + before e i = 128 * (e i / 4) + (32 * e i + before e i) % 128
      omega) c]
    refine Finset.sum_congr rfl fun k _ => ?_
    rw [xstg_eq, hx, wstg_eq, hW]
    congr 1
    have hl := fun l inb => (load_apply (Layout.block S4x256x512 SAll 0 4 (⟨e i / 4, by show _ < 4; omega⟩ : Dev nD) W (by decide)) l inb k c).trans
      (shard_apply W _ l k c)
    have hcase : ∀ l : Fin 4, e i % 4 = l.val → W (ix3 ⟨4 * (e i / 4) + l.val, by have := l.isLt; omega⟩ k c) = W (ix3 ⟨e i, hei⟩ k c) := fun l h => by
      congr 2
      refine Fin.ext ?_
      show 4 * (e i / 4) + l.val = e i
      omega
    split
    · next h => exact (hl 0 _).trans (hcase 0 h)
    · split
      · next h => exact (hl 1 _).trans (hcase 1 h)
      · split
        · next h => exact (hl 2 _).trans (hcase 2 h)
        · exact (hl 3 _).trans (hcase 3 (by show e i % 4 = 3; omega))
  · next hk => exact sum_pick_none _ (fun r h => hk h.1) _

/-- A word that is at least 0 and less than 16 is one of the first sixteen numbers. -/
theorem small_word (b : BitVec 32) (h : IntOp.andi (IntOp.cmpi .sge b 0#32) (IntOp.cmpi .slt b 16#32) = 1#1) : b.toNat < 16 := by
  have hand : ∀ a b : BitVec 1, IntOp.andi a b = 1#1 → a = 1#1 ∧ b = 1#1 := by decide
  obtain ⟨h1, h2⟩ := hand _ _ h
  rw [WordCmp.cmpi_sge_eq] at h1
  rw [WordCmp.cmpi_slt_eq] at h2
  have hb : ∀ p : Bool, BitVec.ofBool p = 1#1 → p = true := by decide
  have h1' : (0#32).toInt ≤ b.toInt := of_decide_eq_true (hb _ h1)
  have h2' : b.toInt < (16#32).toInt := of_decide_eq_true (hb _ h2)
  rw [show (0#32).toInt = 0 by decide] at h1'
  rw [show (16#32).toInt = 16 by decide] at h2'
  rw [BitVec.toInt_eq_toNat_cond] at h1' h2'
  have := b.isLt
  split at h1' <;> omega

/-- The precondition bounds every token's expert. -/
theorem expert_lt (m : (ℓ : Loc nD τ sig) → Buf (Elt Ideal) ℓ)
    (h : @Cert.Pre_KernelIdeal_experts_in_range_KernelIdeal facts_pre_kernel m) (d : Dev nD) (i : Fin 512) :
    (m ((d : Thread nD τ).loc main_arg2) (ix2 i 0) : BitVec 32).toNat < 16 := by
  haveI : Subsingleton Cert.Pre_experts_in_range_KernelIdeal.S_.Idx := ⟨fun a b => funext fun q => q.elim0⟩
  have := Host.reduce_andi_all _ _ _ _ ValueIdx.ix0 (congrFun (h d) ValueIdx.ix0) (ix2 i 0)
  exact small_word _ this

/-- On arguments in range that agree, every device's result is the reference's. -/
theorem algebraic : @Cert.algebraic_KernelIdeal_ReferenceIdeal_pre_experts_in_range_KernelIdeal
    Cert.KernelIdeal.Gen.facts Cert.ReferenceIdeal.Gen.facts facts_pre_kernel := by
  intro m g m' g' hpre hag
  refine ⟨refOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3)), ?_, ?_⟩
  · refine (θ_run Cert.KernelIdeal.defs _ _).mono (fun r h c => ?_) (run_values m g)
    refine ⟨(h.1 c).1.trans ?_, (h.1 c).2⟩
    have hlt := fun i => expert_lt m hpre 0 i
    refine out_eq m (fun i => (m (((0 : Dev nD) : Thread nD τ).loc main_arg2) (ix2 i 0) : BitVec 32).toNat) hlt _ _ _ (fun i => ?_)
      (fun d => (hag d).1) (fun d => (hag d).2.2.1) (fun d => (hag d).2.2.2) c
    rw [BitVec.ofNat_toNat, BitVec.setWidth_eq]
    exact congrFun (hag 0).2.2.1.symm (ix2 i 0)
  · exact (θ_run Cert.ReferenceIdeal.defs _ _).mono (fun r h => h 0) (refOut_run m' g')

end Cert.Routing
-- ==== Proof.lean ====
/- The proof of the certificate's claim: the programs' facts, the frames, and the kernel's agreement with the reference. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- Everything the certificate states. -/
theorem claim : Cert.Claim :=
  ⟨Cert.Kernel.Gen.facts, Cert.KernelIdeal.Gen.facts, Cert.ReferenceIdeal.Gen.facts,
    Cert.Exchange.facts_pre_kernel, Cert.Exchange.facts_pre_reference,
    Cert.Exchange.frame_kernel, Cert.Exchange.frame_ideal, Cert.Exchange.frame_ideal_pre,
    Cert.Exchange.frame_reference, Cert.Exchange.frame_reference_pre, trivial, Cert.Routing.algebraic⟩

end Cert.Proof

end
